-- ==== Defs.lean ====
def Pre_Ffn [hPre_tile_expert_in_range : Cert.Pre_tile_expert_in_range.Facts] (m : (ℓ : Loc Cert.Ffn.nD Cert.Ffn.τ Cert.Ffn.sig) → Buf (Elt Bits) ℓ) : Prop :=
  ∀ c : Dev Cert.Ffn.nD,
    (Cert.Pre_tile_expert_in_range.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4))) = (fun _ => 1#1)

def Pre_FfnIdeal [hPre_tile_expert_in_range : Cert.Pre_tile_expert_in_range.Facts] (m : (ℓ : Loc Cert.FfnIdeal.nD Cert.FfnIdeal.τ Cert.FfnIdeal.sig) → Buf (Elt Ideal) ℓ) : Prop :=
  ∀ c : Dev Cert.FfnIdeal.nD,
    (Cert.Pre_tile_expert_in_range.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_tile_expert_in_range [hPre_tile_expert_in_range : Cert.Pre_tile_expert_in_range.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_tile_expert_in_range.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_all_finite [hPre_all_finite : Cert.Pre_all_finite.Facts] (m : (ℓ : Loc Cert.RouteIdeal.nD Cert.RouteIdeal.τ Cert.RouteIdeal.sig) → Buf (Elt Ideal) ℓ) : Prop :=
  ∀ c : Dev Cert.RouteIdeal.nD,
    (Cert.Pre_all_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7))).1 = (fun _ => 1#1)
    ∧ (Cert.Pre_all_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7))).2.1 = (fun _ => 1#1)
    ∧ (Cert.Pre_all_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7))).2.2.1 = (fun _ => 1#1)
    ∧ (Cert.Pre_all_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7))).2.2.2.1 = (fun _ => 1#1)
    ∧ (Cert.Pre_all_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7))).2.2.2.2.1 = (fun _ => 1#1)
    ∧ (Cert.Pre_all_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7))).2.2.2.2.2.1 = (fun _ => 1#1)
    ∧ (Cert.Pre_all_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7))).2.2.2.2.2.2.1 = (fun _ => 1#1)
    ∧ (Cert.Pre_all_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7))).2.2.2.2.2.2.2 = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_all_finite [hPre_all_finite : Cert.Pre_all_finite.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_all_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7))).1 = (fun _ => 1#1)
    ∧ (Cert.Pre_all_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7))).2.1 = (fun _ => 1#1)
    ∧ (Cert.Pre_all_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7))).2.2.1 = (fun _ => 1#1)
    ∧ (Cert.Pre_all_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7))).2.2.2.1 = (fun _ => 1#1)
    ∧ (Cert.Pre_all_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7))).2.2.2.2.1 = (fun _ => 1#1)
    ∧ (Cert.Pre_all_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7))).2.2.2.2.2.1 = (fun _ => 1#1)
    ∧ (Cert.Pre_all_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7))).2.2.2.2.2.2.1 = (fun _ => 1#1)
    ∧ (Cert.Pre_all_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7))).2.2.2.2.2.2.2 = (fun _ => 1#1)

def quiescent_Ffn [hFfn : Cert.Ffn.Facts] [hPre_tile_expert_in_range : Cert.Pre_tile_expert_in_range.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] [hPre_tile_expert_in_range : Cert.Pre_tile_expert_in_range.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_tile_expert_in_range [hFfnRefIdeal : Cert.FfnRefIdeal.Facts] [hPre_tile_expert_in_range : Cert.Pre_tile_expert_in_range.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_tile_expert_in_range m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5)
      ∧ r.2.mem ((c.tc : Thread Cert.Route.nD Cert.Route.τ).loc Cert.Route.main_arg6) = m ((c.tc : Thread Cert.Route.nD Cert.Route.τ).loc Cert.Route.main_arg6)
      ∧ r.2.mem ((c.tc : Thread Cert.Route.nD Cert.Route.τ).loc Cert.Route.main_arg7) = m ((c.tc : Thread Cert.Route.nD Cert.Route.τ).loc Cert.Route.main_arg7))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7))
      ∧ r.2.sem = fun _ => 0)

def quiescent_RouteIdeal_pre_all_finite [hRouteIdeal : Cert.RouteIdeal.Facts] [hPre_all_finite : Cert.Pre_all_finite.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_all_finite m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6)
      ∧ r.2.mem ((c.tc : Thread Cert.RouteRefIdeal.nD Cert.RouteRefIdeal.τ).loc Cert.RouteRefIdeal.main_arg7) = m ((c.tc : Thread Cert.RouteRefIdeal.nD Cert.RouteRefIdeal.τ).loc Cert.RouteRefIdeal.main_arg7))
      ∧ r.2.sem = fun _ => 0)

def quiescent_RouteRefIdeal_pre_all_finite [hRouteRefIdeal : Cert.RouteRefIdeal.Facts] [hPre_all_finite : Cert.Pre_all_finite.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_all_finite m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6)
      ∧ r.2.mem ((c.tc : Thread Cert.RouteRefIdeal.nD Cert.RouteRefIdeal.τ).loc Cert.RouteRefIdeal.main_arg7) = m ((c.tc : Thread Cert.RouteRefIdeal.nD Cert.RouteRefIdeal.τ).loc Cert.RouteRefIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] [hPre_tile_expert_in_range : Cert.Pre_tile_expert_in_range.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v72) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v5_0)) (v1 : (c : Dev Cert.QkvIdeal.nD) → Buf (Elt Ideal) ((c.tc : Thread Cert.QkvIdeal.nD Cert.QkvIdeal.τ).loc Cert.QkvIdeal.main_v5_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5_0) = v0 c
          ∧ r.2.mem ((c.tc : Thread Cert.QkvIdeal.nD Cert.QkvIdeal.τ).loc Cert.QkvIdeal.main_v5_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v23) = v0 c
          ∧ r.2.mem ((c.tc : Thread Cert.QkvRefIdeal.nD Cert.QkvRefIdeal.τ).loc Cert.QkvRefIdeal.main_v22) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v20_0)) (v1 : (c : Dev Cert.OutIdeal.nD) → Buf (Elt Ideal) ((c.tc : Thread Cert.OutIdeal.nD Cert.OutIdeal.τ).loc Cert.OutIdeal.main_v20_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v20_0) = v0 c
          ∧ r.2.mem ((c.tc : Thread Cert.OutIdeal.nD Cert.OutIdeal.τ).loc Cert.OutIdeal.main_v20_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_v15) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Route_RouteIdeal : Prop :=
  True

def algebraic_RouteIdeal_RouteRefIdeal_pre_all_finite [hRouteIdeal : Cert.RouteIdeal.Facts] [hRouteRefIdeal : Cert.RouteRefIdeal.Facts] [hPre_all_finite : Cert.Pre_all_finite.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_all_finite m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)
      ∧ m' ((c.tc : Thread Cert.RouteRefIdeal.nD Cert.RouteRefIdeal.τ).loc Cert.RouteRefIdeal.main_arg6) = m ((c.tc : Thread Cert.RouteIdeal.nD Cert.RouteIdeal.τ).loc Cert.RouteIdeal.main_arg6)
      ∧ m' ((c.tc : Thread Cert.RouteRefIdeal.nD Cert.RouteRefIdeal.τ).loc Cert.RouteRefIdeal.main_arg7) = m ((c.tc : Thread Cert.RouteIdeal.nD Cert.RouteIdeal.τ).loc Cert.RouteIdeal.main_arg7)) →
    ∃ (v0 : (c : Dev Cert.RouteIdeal.nD) → Buf (Elt Ideal) ((c.tc : Thread Cert.RouteIdeal.nD Cert.RouteIdeal.τ).loc Cert.RouteIdeal.main_v21)) (v1 : (c : Dev Cert.RouteIdeal.nD) → Buf (Elt Ideal) ((c.tc : Thread Cert.RouteIdeal.nD Cert.RouteIdeal.τ).loc Cert.RouteIdeal.main_v22)) (v2 : (c : Dev Cert.RouteIdeal.nD) → Buf (Elt Ideal) ((c.tc : Thread Cert.RouteIdeal.nD Cert.RouteIdeal.τ).loc Cert.RouteIdeal.main_v23)) (v3 : (c : Dev Cert.RouteIdeal.nD) → Buf (Elt Ideal) ((c.tc : Thread Cert.RouteIdeal.nD Cert.RouteIdeal.τ).loc Cert.RouteIdeal.main_v24)) (v4 : (c : Dev Cert.RouteIdeal.nD) → Buf (Elt Ideal) ((c.tc : Thread Cert.RouteIdeal.nD Cert.RouteIdeal.τ).loc Cert.RouteIdeal.main_v25)) (v5 : (c : Dev Cert.RouteIdeal.nD) → Buf (Elt Ideal) ((c.tc : Thread Cert.RouteIdeal.nD Cert.RouteIdeal.τ).loc Cert.RouteIdeal.main_v26)) (v6 : (c : Dev Cert.RouteIdeal.nD) → Buf (Elt Ideal) ((c.tc : Thread Cert.RouteIdeal.nD Cert.RouteIdeal.τ).loc Cert.RouteIdeal.main_v27)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v21) = v0 c
          ∧ r.2.mem ((c.tc : Thread Cert.RouteIdeal.nD Cert.RouteIdeal.τ).loc Cert.RouteIdeal.main_v22) = v1 c
          ∧ r.2.mem ((c.tc : Thread Cert.RouteIdeal.nD Cert.RouteIdeal.τ).loc Cert.RouteIdeal.main_v23) = v2 c
          ∧ r.2.mem ((c.tc : Thread Cert.RouteIdeal.nD Cert.RouteIdeal.τ).loc Cert.RouteIdeal.main_v24) = v3 c
          ∧ r.2.mem ((c.tc : Thread Cert.RouteIdeal.nD Cert.RouteIdeal.τ).loc Cert.RouteIdeal.main_v25) = v4 c
          ∧ r.2.mem ((c.tc : Thread Cert.RouteIdeal.nD Cert.RouteIdeal.τ).loc Cert.RouteIdeal.main_v26) = v5 c
          ∧ r.2.mem ((c.tc : Thread Cert.RouteIdeal.nD Cert.RouteIdeal.τ).loc Cert.RouteIdeal.main_v27) = v6 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
          ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
          ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v54) = v0 c
          ∧ r.2.mem ((c.tc : Thread Cert.RouteRefIdeal.nD Cert.RouteRefIdeal.τ).loc Cert.RouteRefIdeal.main_v66) = v1 c
          ∧ r.2.mem ((c.tc : Thread Cert.RouteRefIdeal.nD Cert.RouteRefIdeal.τ).loc Cert.RouteRefIdeal.main_v99) = v2 c
          ∧ r.2.mem ((c.tc : Thread Cert.RouteRefIdeal.nD Cert.RouteRefIdeal.τ).loc Cert.RouteRefIdeal.main_v102) = v3 c
          ∧ r.2.mem ((c.tc : Thread Cert.RouteRefIdeal.nD Cert.RouteRefIdeal.τ).loc Cert.RouteRefIdeal.main_v116) = v4 c
          ∧ r.2.mem ((c.tc : Thread Cert.RouteRefIdeal.nD Cert.RouteRefIdeal.τ).loc Cert.RouteRefIdeal.main_v130) = v5 c
          ∧ r.2.mem ((c.tc : Thread Cert.RouteRefIdeal.nD Cert.RouteRefIdeal.τ).loc Cert.RouteRefIdeal.main_v96) = v6 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5)
          ∧ r.2.mem ((c.tc : Thread Cert.RouteRefIdeal.nD Cert.RouteRefIdeal.τ).loc Cert.RouteRefIdeal.main_arg6) = m' ((c.tc : Thread Cert.RouteRefIdeal.nD Cert.RouteRefIdeal.τ).loc Cert.RouteRefIdeal.main_arg6)
          ∧ r.2.mem ((c.tc : Thread Cert.RouteRefIdeal.nD Cert.RouteRefIdeal.τ).loc Cert.RouteRefIdeal.main_arg7) = m' ((c.tc : Thread Cert.RouteRefIdeal.nD Cert.RouteRefIdeal.τ).loc Cert.RouteRefIdeal.main_arg7))

def Claim : Prop :=
  ∃ (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hRoute : Cert.Route.Facts) (hRouteIdeal : Cert.RouteIdeal.Facts) (hRouteRefIdeal : Cert.RouteRefIdeal.Facts) (hPre_tile_expert_in_range : Cert.Pre_tile_expert_in_range.Facts) (hPre_all_finite : Cert.Pre_all_finite.Facts),
    quiescent_Ffn (hFfn := hFfn) (hPre_tile_expert_in_range := hPre_tile_expert_in_range)
    ∧ quiescent_FfnIdeal (hFfnIdeal := hFfnIdeal) (hPre_tile_expert_in_range := hPre_tile_expert_in_range)
    ∧ quiescent_FfnRefIdeal (hFfnRefIdeal := hFfnRefIdeal)
    ∧ quiescent_FfnRefIdeal_pre_tile_expert_in_range (hFfnRefIdeal := hFfnRefIdeal) (hPre_tile_expert_in_range := hPre_tile_expert_in_range)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ quiescent_Route (hRoute := hRoute)
    ∧ quiescent_RouteIdeal (hRouteIdeal := hRouteIdeal)
    ∧ quiescent_RouteIdeal_pre_all_finite (hRouteIdeal := hRouteIdeal) (hPre_all_finite := hPre_all_finite)
    ∧ quiescent_RouteRefIdeal (hRouteRefIdeal := hRouteRefIdeal)
    ∧ quiescent_RouteRefIdeal_pre_all_finite (hRouteRefIdeal := hRouteRefIdeal) (hPre_all_finite := hPre_all_finite)
    ∧ preserves_Ffn_FfnIdeal
    ∧ algebraic_FfnIdeal_FfnRefIdeal (hFfnIdeal := hFfnIdeal) (hFfnRefIdeal := hFfnRefIdeal) (hPre_tile_expert_in_range := hPre_tile_expert_in_range)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
    ∧ preserves_Route_RouteIdeal
    ∧ algebraic_RouteIdeal_RouteRefIdeal_pre_all_finite (hRouteIdeal := hRouteIdeal) (hRouteRefIdeal := hRouteRefIdeal) (hPre_all_finite := hPre_all_finite)
-- ==== Pre_all_finite.lean ====
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S32768x1024 : S_.BroadcastsInDim S32768x1024 (![] : Fin 0 → Fin S32768x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S1024x32 : S_.BroadcastsInDim S1024x32 (![] : Fin 0 → Fin S1024x32.rank)
  bcast_S_S32 : S_.BroadcastsInDim S32 (![] : Fin 0 → Fin S32.rank)

variable [Facts]

def fn_part1 {F : FTy → Type} [FloatOps F] (main_arg6 : FVec F S1024x32 .f32) (main_arg7 : FVec F S32 .f32) (main_v2 : IVec S32768x1024 1) (main_v5 : IVec S32768x1024 1) (main_v8 : IVec S1024x1024 1) (main_v11 : IVec S1024 1) (main_v14 : IVec S1024x4 1) (main_v17 : IVec S4 1) : IVec S32768x1024 1 × IVec S32768x1024 1 × IVec S1024x1024 1 × IVec S1024 1 × IVec S1024x4 1 × IVec S4 1 × IVec S1024x32 1 × IVec S32 1 :=
  let main_v18 : FVec F S1024x32 .f32 := Host.absf main_arg6
  let main_cst_5 : FVec F S_ .f32 := constant S_ .f32 0x7F800000#32
  let main_v19 : FVec F S1024x32 .f32 := broadcastInDim S1024x32 ![] bcast_S_S1024x32 main_cst_5
  let main_v20 : IVec S1024x32 1 := cmpf .olt main_v18 main_v19
  let main_v21 : FVec F S32 .f32 := Host.absf main_arg7
  let main_cst_6 : FVec F S_ .f32 := constant S_ .f32 0x7F800000#32
  let main_v22 : FVec F S32 .f32 := broadcastInDim S32 ![] bcast_S_S32 main_cst_6
  let main_v23 : IVec S32 1 := cmpf .olt main_v21 main_v22
  (main_v2, main_v5, main_v8, main_v11, main_v14, main_v17, main_v20, main_v23)

def fn {F : FTy → Type} [FloatOps F] (main_arg0 : FVec F S32768x1024 .bf16) (main_arg1 : FVec F S32768x1024 .f32) (main_arg2 : FVec F S1024x1024 .f32) (main_arg3 : FVec F S1024 .f32) (main_arg4 : FVec F S1024x4 .f32) (main_arg5 : FVec F S4 .f32) (main_arg6 : FVec F S1024x32 .f32) (main_arg7 : FVec F S32 .f32) : IVec S32768x1024 1 × IVec S32768x1024 1 × IVec S1024x1024 1 × IVec S1024 1 × IVec S1024x4 1 × IVec S4 1 × IVec S1024x32 1 × IVec S32 1 :=
  let main_v0 : FVec F S32768x1024 .bf16 := Host.absf main_arg0
  let main_cst : FVec F S_ .bf16 := constant S_ .bf16 0x7F80#16
  let main_v1 : FVec F S32768x1024 .bf16 := broadcastInDim S32768x1024 ![] bcast_S_S32768x1024 main_cst
  let main_v2 : IVec S32768x1024 1 := cmpf .olt main_v0 main_v1
  let main_v3 : FVec F S32768x1024 .f32 := Host.absf main_arg1
  let main_cst_0 : FVec F S_ .f32 := constant S_ .f32 0x7F800000#32
  let main_v4 : FVec F S32768x1024 .f32 := broadcastInDim S32768x1024 ![] bcast_S_S32768x1024 main_cst_0
  let main_v5 : IVec S32768x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x4 .f32 := Host.absf main_arg4
  let main_cst_3 : FVec F S_ .f32 := constant S_ .f32 0x7F800000#32
  let main_v13 : FVec F S1024x4 .f32 := broadcastInDim S1024x4 ![] bcast_S_S1024x4 main_cst_3
  let main_v14 : IVec S1024x4 1 := cmpf .olt main_v12 main_v13
  let main_v15 : FVec F S4 .f32 := Host.absf main_arg5
  let main_cst_4 : FVec F S_ .f32 := constant S_ .f32 0x7F800000#32
  let main_v16 : FVec F S4 .f32 := broadcastInDim S4 ![] bcast_S_S4 main_cst_4
  let main_v17 : IVec S4 1 := cmpf .olt main_v15 main_v16
  fn_part1 (F := F) main_arg6 main_arg7 main_v2 main_v5 main_v8 main_v11 main_v14 main_v17
-- ==== Pre_tile_expert_in_range.lean ====
abbrev S160 : Shape := ⟨1, ![160]⟩
abbrev S81920x1024 : Shape := ⟨2, ![81920, 1024]⟩
abbrev S4x8x1024x256 : Shape := ⟨4, ![4, 8, 1024, 256]⟩
abbrev S4x8x256x1024 : Shape := ⟨4, ![4, 8, 256, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : FVec F S81920x1024 .f32) (main_arg2 : FVec F S4x8x1024x256 .f32) (main_arg3 : FVec F S4x8x1024x256 .f32) (main_arg4 : FVec F S4x8x256x1024 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Ffn.lean ====
abbrev S160 : Shape := ⟨1, ![160]⟩
abbrev S81920x1024 : Shape := ⟨2, ![81920, 1024]⟩
abbrev S4x8x1024x256 : Shape := ⟨4, ![4, 8, 1024, 256]⟩
abbrev S4x8x256x1024 : Shape := ⟨4, ![4, 8, 256, 1024]⟩
abbrev S32x1024x256 : Shape := ⟨3, ![32, 1024, 256]⟩
abbrev S32x256x1024 : Shape := ⟨3, ![32, 256, 1024]⟩
abbrev S512x1024 : Shape := ⟨2, ![512, 1024]⟩
abbrev S1x1024x256 : Shape := ⟨3, ![1, 1024, 256]⟩
abbrev S1 : Shape := ⟨1, ![1]⟩
abbrev S1x256x1024 : Shape := ⟨3, ![1, 256, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 10
  | .smem => 1
  | _ => 0

abbrev bufTy : (tb : Table) → Fin (tcTables nBuf tb) → BufTy
  | .hbm, ⟨0, _⟩ => ⟨S81920x1024, .f32⟩
  | .hbm, ⟨1, _⟩ => ⟨S4x8x1024x256, .f32⟩
  | .hbm, ⟨2, _⟩ => ⟨S4x8x1024x256, .f32⟩
  | .hbm, ⟨3, _⟩ => ⟨S4x8x256x1024, .f32⟩
  | .hbm, ⟨4, _⟩ => ⟨S32x1024x256, .f32⟩
  | .hbm, ⟨5, _⟩ => ⟨S32x1024x256, .bf16⟩
  | .hbm, ⟨6, _⟩ => ⟨S32x1024x256, .f32⟩
  | .hbm, ⟨7, _⟩ => ⟨S32x1024x256, .bf16⟩
  | .hbm, ⟨8, _⟩ => ⟨S32x256x1024, .f32⟩
  | .hbm, ⟨9, _⟩ => ⟨S32x256x1024, .bf16⟩
  | .hbm, ⟨10, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S512x1024, .f32⟩
  | .local _ .vmem, ⟨9, _⟩ => ⟨S512x1024, .f32⟩
  | .local _ .smem, ⟨0, _⟩ => ⟨S160, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S160 : Shape := ⟨1, ![160]⟩
abbrev S81920x1024 : Shape := ⟨2, ![81920, 1024]⟩
abbrev S4x8x1024x256 : Shape := ⟨4, ![4, 8, 1024, 256]⟩
abbrev S4x8x256x1024 : Shape := ⟨4, ![4, 8, 256, 1024]⟩
abbrev S160x512 : Shape := ⟨2, ![160, 512]⟩
abbrev S81920 : Shape := ⟨1, ![81920]⟩
abbrev S81920x1 : Shape := ⟨2, ![81920, 1]⟩
abbrev S1x32 : Shape := ⟨2, ![1, 32]⟩
abbrev S81920x32 : Shape := ⟨2, ![81920, 32]⟩
abbrev S81920x4x8 : Shape := ⟨3, ![81920, 4, 8]⟩
abbrev S_ : Shape := ⟨0, ![]⟩
abbrev S1x8x1024x256 : Shape := ⟨4, ![1, 8, 1024, 256]⟩
abbrev S8x1024x256 : Shape := ⟨3, ![8, 1024, 256]⟩
abbrev S81920x8x256 : Shape := ⟨3, ![81920, 8, 256]⟩
abbrev S81920x1x8 : Shape := ⟨3, ![81920, 1, 8]⟩
abbrev S81920x8 : Shape := ⟨2, ![81920, 8]⟩
abbrev S81920x8x1 : Shape := ⟨3, ![81920, 8, 1]⟩
abbrev S1x8x256x1024 : Shape := ⟨4, ![1, 8, 256, 1024]⟩
abbrev S8x256x1024 : Shape := ⟨3, ![8, 256, 1024]⟩

abbrev nBuf : Space → Nat
  | .hbm => 116
  | .vmem => 0
  | .smem => 0
  | _ => 0

abbrev bufTy : (tb : Table) → Fin (tcTables nBuf tb) → BufTy
  | .hbm, ⟨0, _⟩ => ⟨S160, .i32⟩
  | .hbm, ⟨1, _⟩ => ⟨S81920x1024, .f32⟩
  | .hbm, ⟨2, _⟩ => ⟨S4x8x1024x256, .f32⟩
  | .hbm, ⟨3, _⟩ => ⟨S4x8x1024x256, .f32⟩
  | .hbm, ⟨4, _⟩ => ⟨S4x8x256x1024, .f32⟩
  | .hbm, ⟨5, _⟩ => ⟨S160x512, .i32⟩
  | .hbm, ⟨6, _⟩ => ⟨S81920, .i32⟩
  | .hbm, ⟨7, _⟩ => ⟨S81920x1, .i32⟩
  | .hbm, ⟨8, _⟩ => ⟨S1x32, .i32⟩
  | .hbm, ⟨9, _⟩ => ⟨S81920x32, .i32⟩
  | .hbm, ⟨10, _⟩ => ⟨S81920x32, .i32⟩
  | .hbm, ⟨11, _⟩ => ⟨S81920x32, .i1⟩
  | .hbm, ⟨12, _⟩ => ⟨S81920x32, .f32⟩
  | .hbm, ⟨13, _⟩ => ⟨S81920x4x8, .f32⟩
  | .hbm, ⟨14, _⟩ => ⟨S_, .f32⟩
  | .hbm, ⟨15, _⟩ => ⟨S81920x1024, .f32⟩
  | .hbm, ⟨16, _⟩ => ⟨S1x8x1024x256, .f32⟩
  | .hbm, ⟨17, _⟩ => ⟨S8x1024x256, .f32⟩
  | .hbm, ⟨18, _⟩ => ⟨S81920x8x256, .f32⟩
  | .hbm, ⟨19, _⟩ => ⟨S81920x8x256, .f32⟩
  | .hbm, ⟨20, _⟩ => ⟨S81920x8x256, .f32⟩
  | .hbm, ⟨21, _⟩ => ⟨S_, .f32⟩
  | .hbm, ⟨22, _⟩ => ⟨S81920x8x256, .f32⟩
  | .hbm, ⟨23, _⟩ => ⟨S81920x8x256, .f32⟩
  | .hbm, ⟨24, _⟩ => ⟨S_, .f32⟩
  | .hbm, ⟨25, _⟩ => ⟨S81920x8x256, .f32⟩
  | .hbm, ⟨26, _⟩ => ⟨S81920x8x256, .f32⟩
  | .hbm, ⟨27, _⟩ => ⟨S81920x8x256, .f32⟩
  | .hbm, ⟨28, _⟩ => ⟨S1x8x1024x256, .f32⟩
  | .hbm, ⟨29, _⟩ => ⟨S8x1024x256, .f32⟩
  | .hbm, ⟨30, _⟩ => ⟨S81920x8x256, .f32⟩
  | .hbm, ⟨31, _⟩ => ⟨S81920x8x256, .f32⟩
  | .hbm, ⟨32, _⟩ => ⟨S81920x1x8, .f32⟩
  | .hbm, ⟨33, _⟩ => ⟨S81920x8, .f32⟩
  | .hbm, ⟨34, _⟩ => ⟨S81920x8x1, .f32⟩
  | .hbm, ⟨35, _⟩ => ⟨S81920x8x256, .f32⟩
  | .hbm, ⟨36, _⟩ => ⟨S81920x8x256, .f32⟩
  | .hbm, ⟨37, _⟩ => ⟨S1x8x256x1024, .f32⟩
  | .hbm, ⟨38, _⟩ => ⟨S8x256x1024, .f32⟩
  | .hbm, ⟨39, _⟩ => ⟨S81920x1024, .f32⟩
  | .hbm, ⟨40, _⟩ => ⟨S81920x1024, .f32⟩
  | .hbm, ⟨41, _⟩ => ⟨S1x8x1024x256, .f32⟩
  | .hbm, ⟨42, _⟩ => ⟨S8x1024x256, .f32⟩
  | .hbm, ⟨43, _⟩ => ⟨S81920x8x256, .f32⟩
  | .hbm, ⟨44, _⟩ => ⟨S81920x8x256, .f32⟩
  | .hbm, ⟨45, _⟩ => ⟨S81920x8x256, .f32⟩
  | .hbm, ⟨46, _⟩ => ⟨S_, .f32⟩
  | .hbm, ⟨47, _⟩ => ⟨S81920x8x256, .f32⟩
  | .hbm, ⟨48, _⟩ => ⟨S81920x8x256, .f32⟩
  | .hbm, ⟨49, _⟩ => ⟨S_, .f32⟩
  | .hbm, ⟨50, _⟩ => ⟨S81920x8x256, .f32⟩
  | .hbm, ⟨51, _⟩ => ⟨S81920x8x256, .f32⟩
  | .hbm, ⟨52, _⟩ => ⟨S81920x8x256, .f32⟩
  | .hbm, ⟨53, _⟩ => ⟨S1x8x1024x256, .f32⟩
  | .hbm, ⟨54, _⟩ => ⟨S8x1024x256, .f32⟩
  | .hbm, ⟨55, _⟩ => ⟨S81920x8x256, .f32⟩
  | .hbm, ⟨56, _⟩ => ⟨S81920x8x256, .f32⟩
  | .hbm, ⟨57, _⟩ => ⟨S81920x1x8, .f32⟩
  | .hbm, ⟨58, _⟩ => ⟨S81920x8, .f32⟩
  | .hbm, ⟨59, _⟩ => ⟨S81920x8x1, .f32⟩
  | .hbm, ⟨60, _⟩ => ⟨S81920x8x256, .f32⟩
  | .hbm, ⟨61, _⟩ => ⟨S81920x8x256, .f32⟩
  | .hbm, ⟨62, _⟩ => ⟨S1x8x256x1024, .f32⟩
  | .hbm, ⟨63, _⟩ => ⟨S8x256x1024, .f32⟩
  | .hbm, ⟨64, _⟩ => ⟨S81920x1024, .f32⟩
  | .hbm, ⟨65, _⟩ => ⟨S81920x1024, .f32⟩
  | .hbm, ⟨66, _⟩ => ⟨S1x8x1024x256, .f32⟩
  | .hbm, ⟨67, _⟩ => ⟨S8x1024x256, .f32⟩
  | .hbm, ⟨68, _⟩ => ⟨S81920x8x256, .f32⟩
  | .hbm, ⟨69, _⟩ => ⟨S81920x8x256, .f32⟩
  | .hbm, ⟨70, _⟩ => ⟨S81920x8x256, .f32⟩
  | .hbm, ⟨71, _⟩ => ⟨S_, .f32⟩
  | .hbm, ⟨72, _⟩ => ⟨S81920x8x256, .f32⟩
  | .hbm, ⟨73, _⟩ => ⟨S81920x8x256, .f32⟩
  | .hbm, ⟨74, _⟩ => ⟨S_, .f32⟩
  | .hbm, ⟨75, _⟩ => ⟨S81920x8x256, .f32⟩
  | .hbm, ⟨76, _⟩ => ⟨S81920x8x256, .f32⟩
  | .hbm, ⟨77, _⟩ => ⟨S81920x8x256, .f32⟩
  | .hbm, ⟨78, _⟩ => ⟨S1x8x1024x256, .f32⟩
  | .hbm, ⟨79, _⟩ => ⟨S8x1024x256, .f32⟩
  | .hbm, ⟨80, _⟩ => ⟨S81920x8x256, .f32⟩
  | .hbm, ⟨81, _⟩ => ⟨S81920x8x256, .f32⟩
  | .hbm, ⟨82, _⟩ => ⟨S81920x1x8, .f32⟩
  | .hbm, ⟨83, _⟩ => ⟨S81920x8, .f32⟩
  | .hbm, ⟨84, _⟩ => ⟨S81920x8x1, .f32⟩
  | .hbm, ⟨85, _⟩ => ⟨S81920x8x256, .f32⟩
  | .hbm, ⟨86, _⟩ => ⟨S81920x8x256, .f32⟩
  | .hbm, ⟨87, _⟩ => ⟨S1x8x256x1024, .f32⟩
  | .hbm, ⟨88, _⟩ => ⟨S8x256x1024, .f32⟩
  | .hbm, ⟨89, _⟩ => ⟨S81920x1024, .f32⟩
  | .hbm, ⟨90, _⟩ => ⟨S81920x1024, .f32⟩
  | .hbm, ⟨91, _⟩ => ⟨S1x8x1024x256, .f32⟩
  | .hbm, ⟨92, _⟩ => ⟨S8x1024x256, .f32⟩
  | .hbm, ⟨93, _⟩ => ⟨S81920x8x256, .f32⟩
  | .hbm, ⟨94, _⟩ => ⟨S81920x8x256, .f32⟩
  | .hbm, ⟨95, _⟩ => ⟨S81920x8x256, .f32⟩
  | .hbm, ⟨96, _⟩ => ⟨S_, .f32⟩
  | .hbm, ⟨97, _⟩ => ⟨S81920x8x256, .f32⟩
  | .hbm, ⟨98, _⟩ => ⟨S81920x8x256, .f32⟩
  | .hbm, ⟨99, _⟩ => ⟨S_, .f32⟩
  | .hbm, ⟨100, _⟩ => ⟨S81920x8x256, .f32⟩
  | .hbm, ⟨101, _⟩ => ⟨S81920x8x256, .f32⟩
  | .hbm, ⟨102, _⟩ => ⟨S81920x8x256, .f32⟩
  | .hbm, ⟨103, _⟩ => ⟨S1x8x1024x256, .f32⟩
  | .hbm, ⟨104, _⟩ => ⟨S8x1024x256, .f32⟩
  | .hbm, ⟨105, _⟩ => ⟨S81920x8x256, .f32⟩
  | .hbm, ⟨106, _⟩ => ⟨S81920x8x256, .f32⟩
  | .hbm, ⟨107, _⟩ => ⟨S81920x1x8, .f32⟩
  | .hbm, ⟨108, _⟩ => ⟨S81920x8, .f32⟩
  | .hbm, ⟨109, _⟩ => ⟨S81920x8x1, .f32⟩
  | .hbm, ⟨110, _⟩ => ⟨S81920x8x256, .f32⟩
  | .hbm, ⟨111, _⟩ => ⟨S81920x8x256, .f32⟩
  | .hbm, ⟨112, _⟩ => ⟨S1x8x256x1024, .f32⟩
  | .hbm, ⟨113, _⟩ => ⟨S8x256x1024, .f32⟩
  | .hbm, ⟨114, _⟩ => ⟨S81920x1024, .f32⟩
  | .hbm, ⟨115, _⟩ => ⟨S81920x1024, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call3_v0 : Ref sig .tc := ⟨.hbm, 69, rfl⟩
abbrev main_call3_v1 : Ref sig .tc := ⟨.hbm, 70, rfl⟩
abbrev main_call3_cst : Ref sig .tc := ⟨.hbm, 71, rfl⟩
abbrev main_call3_v2 : Ref sig .tc := ⟨.hbm, 72, rfl⟩
abbrev main_call3_v3 : Ref sig .tc := ⟨.hbm, 73, rfl⟩
abbrev main_call3_cst_0 : Ref sig .tc := ⟨.hbm, 74, rfl⟩
abbrev main_call3_v4 : Ref sig .tc := ⟨.hbm, 75, rfl⟩
abbrev main_call3_v5 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call4_v0 : Ref sig .tc := ⟨.hbm, 94, rfl⟩
abbrev main_call4_v1 : Ref sig .tc := ⟨.hbm, 95, rfl⟩
abbrev main_call4_cst : Ref sig .tc := ⟨.hbm, 96, rfl⟩
abbrev main_call4_v2 : Ref sig .tc := ⟨.hbm, 97, rfl⟩
abbrev main_call4_v3 : Ref sig .tc := ⟨.hbm, 98, rfl⟩
abbrev main_call4_cst_0 : Ref sig .tc := ⟨.hbm, 99, rfl⟩
abbrev main_call4_v4 : Ref sig .tc := ⟨.hbm, 100, rfl⟩
abbrev main_call4_v5 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩

abbrev nD : Nat := 1
abbrev τ : Topo := Topo.v7x

variable {F : FTy → Type} [FloatOps F]
-- ==== Qkv.lean ====
abbrev S8x4096x1024 : Shape := ⟨3, ![8, 4096, 1024]⟩
abbrev S1x1024 : Shape := ⟨2, ![1, 1024]⟩
abbrev S1x1024x3072 : Shape := ⟨3, ![1, 1024, 3072]⟩
abbrev S32768x1024 : Shape := ⟨2, ![32768, 1024]⟩
abbrev S1024 : Shape := ⟨1, ![1024]⟩
abbrev S1024x3072 : Shape := ⟨2, ![1024, 3072]⟩
abbrev S32768x3072 : Shape := ⟨2, ![32768, 3072]⟩
abbrev S128x1x1024 : Shape := ⟨3, ![128, 1, 1024]⟩
abbrev S512x1024 : Shape := ⟨2, ![512, 1024]⟩
abbrev S512x3072 : Shape := ⟨2, ![512, 3072]⟩
abbrev S2x1x1024 : Shape := ⟨3, ![2, 1, 1024]⟩
abbrev S512 : Shape := ⟨1, ![512]⟩
abbrev S512x1 : Shape := ⟨2, ![512, 1]⟩
abbrev S1024x1024 : Shape := ⟨2, ![1024, 1024]⟩
abbrev S2x256x1024 : Shape := ⟨3, ![2, 256, 1024]⟩
abbrev S2x1024 : Shape := ⟨2, ![2, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3072, .f32⟩
  | .hbm, ⟨3, _⟩ => ⟨S32768x1024, .f32⟩
  | .hbm, ⟨4, _⟩ => ⟨S1024, .f32⟩
  | .hbm, ⟨5, _⟩ => ⟨S1024x3072, .f32⟩
  | .hbm, ⟨6, _⟩ => ⟨S1024x3072, .bf16⟩
  | .hbm, ⟨7, _⟩ => ⟨S1x1024, .f32⟩
  | .hbm, ⟨8, _⟩ => ⟨S32768x3072, .bf16⟩
  | .hbm, ⟨9, _⟩ => ⟨S128x1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | .local _ .vmem, ⟨6, _⟩ => ⟨S2x1x1024, .f32⟩
  | .local _ .vmem, ⟨7, _⟩ => ⟨S2x1x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvRefIdeal.lean ====
abbrev S8x4096x1024 : Shape := ⟨3, ![8, 4096, 1024]⟩
abbrev S1x1024 : Shape := ⟨2, ![1, 1024]⟩
abbrev S1x1024x3072 : Shape := ⟨3, ![1, 1024, 3072]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x3072 : Shape := ⟨2, ![1024, 3072]⟩
abbrev S32768x3072 : Shape := ⟨2, ![32768, 3072]⟩
abbrev S128x256x1024 : Shape := ⟨3, ![128, 256, 1024]⟩
abbrev S128x1024 : Shape := ⟨2, ![128, 1024]⟩
abbrev S128x1x1024 : Shape := ⟨3, ![128, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3072, .f32⟩
  | .hbm, ⟨3, _⟩ => ⟨S32768x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x3072, .f32⟩
  | .hbm, ⟨22, _⟩ => ⟨S32768x3072, .f32⟩
  | .hbm, ⟨23, _⟩ => ⟨S32768x1024, .f32⟩
  | .hbm, ⟨24, _⟩ => ⟨S128x256x1024, .f32⟩
  | .hbm, ⟨25, _⟩ => ⟨S_, .f32⟩
  | .hbm, ⟨26, _⟩ => ⟨S128x1024, .f32⟩
  | .hbm, ⟨27, _⟩ => ⟨S128x1x1024, .f32⟩
  | .hbm, ⟨28, _⟩ => ⟨S_, .f32⟩
  | .hbm, ⟨29, _⟩ => ⟨S128x1x1024, .f32⟩
  | .hbm, ⟨30, _⟩ => ⟨S128x1x1024, .f32⟩
  | .hbm, ⟨31, _⟩ => ⟨S32768x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Out.lean ====
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x4x8 : Shape := ⟨3, ![1024, 4, 8]⟩
abbrev S_ : Shape := ⟨0, ![]⟩
abbrev S1024x96 : Shape := ⟨2, ![1024, 96]⟩
abbrev S1024x128 : Shape := ⟨2, ![1024, 128]⟩
abbrev S4x8 : Shape := ⟨2, ![4, 8]⟩
abbrev S96 : Shape := ⟨1, ![96]⟩
abbrev S128 : Shape := ⟨1, ![128]⟩
abbrev S1x128 : Shape := ⟨2, ![1, 128]⟩
abbrev S512x512 : Shape := ⟨2, ![512, 512]⟩
abbrev S1x1024 : Shape := ⟨2, ![1, 1024]⟩
abbrev S32768x128 : Shape := ⟨2, ![32768, 128]⟩
abbrev S8x128 : Shape := ⟨2, ![8, 128]⟩
abbrev S512x1024 : Shape := ⟨2, ![512, 1024]⟩
abbrev S512x128 : Shape := ⟨2, ![512, 128]⟩
abbrev S2x512x128 : Shape := ⟨3, ![2, 512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 47
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x4, .f32⟩
  | .hbm, ⟨5, _⟩ => ⟨S4, .f32⟩
  | .hbm, ⟨6, _⟩ => ⟨S1024x32, .f32⟩
  | .hbm, ⟨7, _⟩ => ⟨S32, .f32⟩
  | .hbm, ⟨8, _⟩ => ⟨S1024x1024, .bf16⟩
  | .hbm, ⟨9, _⟩ => ⟨S1024x4x8, .f32⟩
  | .hbm, ⟨10, _⟩ => ⟨S1024x32, .f32⟩
  | .hbm, ⟨11, _⟩ => ⟨S_, .f32⟩
  | .hbm, ⟨12, _⟩ => ⟨S1024x32, .f32⟩
  | .hbm, ⟨13, _⟩ => ⟨S1024x96, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S4x8, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S96, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S1024x128, .bf16⟩
  | .hbm, ⟨27, _⟩ => ⟨S1024x128, .f32⟩
  | .hbm, ⟨28, _⟩ => ⟨S1024x128, .f32⟩
  | .hbm, ⟨29, _⟩ => ⟨S1024x128, .bf16⟩
  | .hbm, ⟨30, _⟩ => ⟨S_, .f32⟩
  | .hbm, ⟨31, _⟩ => ⟨S512x512, .f32⟩
  | .hbm, ⟨32, _⟩ => ⟨S512x512, .i32⟩
  | .hbm, ⟨33, _⟩ => ⟨S_, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S512x512, .i1⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .bf16⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S32768x128, .f32⟩
  | .hbm, ⟨46, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x128, .bf16⟩
  | .local _ .vmem, ⟨7, _⟩ => ⟨S1024x128, .bf16⟩
  | .local _ .vmem, ⟨8, _⟩ => ⟨S1x128, .f32⟩
  | .local _ .vmem, ⟨9, _⟩ => ⟨S512x512, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S8x128, .f32⟩
  | .local _ .vmem, ⟨17, _⟩ => ⟨S1x128, .f32⟩
  | .local _ .vmem, ⟨18, _⟩ => ⟨S2x512x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_call2_v0 : Ref sig .tc := ⟨.hbm, 32, rfl⟩
abbrev main_call2_c : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_cst : Ref sig .tc := ⟨.hbm, 38, rfl⟩
abbrev main_call2_v5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v20_2 : Ref sig .tc := ⟨.hbm, 45, rfl⟩
abbrev main_v20_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c1_i32 : BitVec 32 := 1#32
  let v5 : BitVec 32 := Scalar.andi arg0 c1_i32
  let c0_i32_3 : BitVec 32 := 0#32
  let v6 : BitVec 1 := Scalar.cmpi .eq v5 c0_i32_3
  let v7 : BitVec 32 := Scalar.extui v6
  let c0_i32_4 : BitVec 32 := 0#32
  let v8 : BitVec 1 := Scalar.cmpi .ne v7 c0_i32_4
  v8

def k0_cond3 (i : grid0.Coords) : BitVec 1 :=
  let arg0 : BitVec 32 := BitVec.ofNat 32 (i 0).val
  let c1_i32_5 : BitVec 32 := 1#32
  let v9 : BitVec 32 := Scalar.andi arg0 c1_i32_5
  let c1_i32_6 : BitVec 32 := 1#32
  let v10 : BitVec 1 := Scalar.cmpi .eq v9 c1_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutRefIdeal.lean ====
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x4, .f32⟩
  | .hbm, ⟨5, _⟩ => ⟨S4, .f32⟩
  | .hbm, ⟨6, _⟩ => ⟨S1024x32, .f32⟩
  | .hbm, ⟨7, _⟩ => ⟨S32, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Route.lean ====
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x4x8 : Shape := ⟨3, ![1024, 4, 8]⟩
abbrev S_ : Shape := ⟨0, ![]⟩
abbrev S1024x96 : Shape := ⟨2, ![1024, 96]⟩
abbrev S1024x128 : Shape := ⟨2, ![1024, 128]⟩
abbrev S4x8 : Shape := ⟨2, ![4, 8]⟩
abbrev S96 : Shape := ⟨1, ![96]⟩
abbrev S128 : Shape := ⟨1, ![128]⟩
abbrev S1x128 : Shape := ⟨2, ![1, 128]⟩
abbrev S512x512 : Shape := ⟨2, ![512, 512]⟩
abbrev S1x1024 : Shape := ⟨2, ![1, 1024]⟩
abbrev S32768x128 : Shape := ⟨2, ![32768, 128]⟩
abbrev S8x128 : Shape := ⟨2, ![8, 128]⟩
abbrev S512x1024 : Shape := ⟨2, ![512, 1024]⟩
abbrev S512x128 : Shape := ⟨2, ![512, 128]⟩
abbrev S2x512x128 : Shape := ⟨3, ![2, 512, 128]⟩
abbrev S512 : Shape := ⟨1, ![512]⟩
abbrev S512x1 : Shape := ⟨2, ![512, 1]⟩
abbrev S1x512x128 : Shape := ⟨3, ![1, 512, 128]⟩
abbrev S32768x1 : Shape := ⟨2, ![32768, 1]⟩
abbrev S1x32 : Shape := ⟨2, ![1, 32]⟩

abbrev nBuf : Space → Nat
  | .hbm => 54
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x4, .f32⟩
  | .hbm, ⟨5, _⟩ => ⟨S4, .f32⟩
  | .hbm, ⟨6, _⟩ => ⟨S1024x32, .f32⟩
  | .hbm, ⟨7, _⟩ => ⟨S32, .f32⟩
  | .hbm, ⟨8, _⟩ => ⟨S1024x1024, .bf16⟩
  | .hbm, ⟨9, _⟩ => ⟨S1024x4x8, .f32⟩
  | .hbm, ⟨10, _⟩ => ⟨S1024x32, .f32⟩
  | .hbm, ⟨11, _⟩ => ⟨S_, .f32⟩
  | .hbm, ⟨12, _⟩ => ⟨S1024x32, .f32⟩
  | .hbm, ⟨13, _⟩ => ⟨S1024x96, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S4x8, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S96, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S1024x128, .bf16⟩
  | .hbm, ⟨27, _⟩ => ⟨S1024x128, .f32⟩
  | .hbm, ⟨28, _⟩ => ⟨S1024x128, .f32⟩
  | .hbm, ⟨29, _⟩ => ⟨S1024x128, .bf16⟩
  | .hbm, ⟨30, _⟩ => ⟨S_, .f32⟩
  | .hbm, ⟨31, _⟩ => ⟨S512x512, .f32⟩
  | .hbm, ⟨32, _⟩ => ⟨S512x512, .i32⟩
  | .hbm, ⟨33, _⟩ => ⟨S_, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S512x512, .i1⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .bf16⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S32768x128, .f32⟩
  | .hbm, ⟨46, _⟩ => ⟨S8x128, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S1x32, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x128, .bf16⟩
  | .local _ .vmem, ⟨7, _⟩ => ⟨S1024x128, .bf16⟩
  | .local _ .vmem, ⟨8, _⟩ => ⟨S1x128, .f32⟩
  | .local _ .vmem, ⟨9, _⟩ => ⟨S512x512, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S8x128, .f32⟩
  | .local _ .vmem, ⟨17, _⟩ => ⟨S1x128, .f32⟩
  | .local _ .vmem, ⟨18, _⟩ => ⟨S2x512x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_call2_v0 : Ref sig .tc := ⟨.hbm, 32, rfl⟩
abbrev main_call2_c : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_cst : Ref sig .tc := ⟨.hbm, 38, rfl⟩
abbrev main_call2_v5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v20_2 : Ref sig .tc := ⟨.hbm, 45, rfl⟩
abbrev main_v20_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c1_i32 : BitVec 32 := 1#32
  let v5 : BitVec 32 := Scalar.andi arg0 c1_i32
  let c0_i32_3 : BitVec 32 := 0#32
  let v6 : BitVec 1 := Scalar.cmpi .eq v5 c0_i32_3
  let v7 : BitVec 32 := Scalar.extui v6
  let c0_i32_4 : BitVec 32 := 0#32
  let v8 : BitVec 1 := Scalar.cmpi .ne v7 c0_i32_4
  v8

def k0_cond3 (i : grid0.Coords) : BitVec 1 :=
  let arg0 : BitVec 32 := BitVec.ofNat 32 (i 0).val
  let c1_i32_5 : BitVec 32 := 1#32
  let v9 : BitVec 32 := Scalar.andi arg0 c1_i32_5
  let c1_i32_6 : BitVec 32 := 1#32
  let v10 : BitVec 1 := Scalar.cmpi .eq v9 c1_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RouteRefIdeal.lean ====
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S4x8 : Shape := ⟨2, ![4, 8]⟩
abbrev S1x32 : Shape := ⟨2, ![1, 32]⟩
abbrev S32768x32 : Shape := ⟨2, ![32768, 32]⟩
abbrev S1x32768 : Shape := ⟨2, ![1, 32768]⟩
abbrev S32768x32768 : Shape := ⟨2, ![32768, 32768]⟩

abbrev nBuf : Space → Nat
  | .hbm => 183
  | .vmem => 0
  | .smem => 0
  | _ => 0

abbrev hbmTy0_0 (i : Nat) : BufTy := match i % 128 with
  | 0 => ⟨S32768x1024, .bf16⟩
  | 1 => ⟨S32768x1024, .f32⟩
  | 2 => ⟨S1024x1024, .f32⟩
  | 3 => ⟨S1024, .f32⟩
  | 4 => ⟨S1024x4, .f32⟩
  | 5 => ⟨S4, .f32⟩
  | 6 => ⟨S1024x32, .f32⟩
  | 7 => ⟨S32, .f32⟩
  | 8 => ⟨S32768x1024, .f32⟩
  | 9 => ⟨S32768x1024, .f32⟩
  | 10 => ⟨S32768x1024, .f32⟩
  | 11 => ⟨S32768x1024, .f32⟩
  | 12 => ⟨S_, .f32⟩
  | 13 => ⟨S32768, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S32768x1, .f32⟩
  | 22 => ⟨S32768x1024, .f32⟩
  | 23 => ⟨S32768x1024, .f32⟩
  | 24 => ⟨S1x1024, .f32⟩
  | 25 => ⟨S32768x1024, .f32⟩
  | 26 => ⟨S32768x1024, .f32⟩
  | 27 => ⟨S4, .f32⟩
  | 28 => ⟨S32, .f32⟩
  | 29 => ⟨S32768x4, .f32⟩
  | 30 => ⟨S1x4, .f32⟩
  | 31 => ⟨S32768x4, .f32⟩
  | 32 => ⟨S32768x4, .f32⟩
  | 33 => ⟨S_, .f32⟩
  | 34 => ⟨S32768, .f32⟩
  | 35 => ⟨S32768x1, .f32⟩
  | 36 => ⟨S32768x4, .f32⟩
  | 37 => ⟨S32768x4, .i1⟩
  | 38 => ⟨S_, .f32⟩
  | 39 => ⟨S_, .f32⟩
  | 40 => ⟨S32768x4, .f32⟩
  | 41 => ⟨S32768x4, .f32⟩
  | 42 => ⟨S32768x4, .f32⟩
  | 43 => ⟨S_, .f32⟩
  | 44 => ⟨S32768, .f32⟩
  | 45 => ⟨S32768x1, .f32⟩
  | 46 => ⟨S32768x1, .f32⟩
  | 47 => ⟨S32768x1, .f32⟩
  | 48 => ⟨S32768x4, .f32⟩
  | 49 => ⟨S32768x4, .f32⟩
  | 50 => ⟨S32768x4, .f32⟩
  | 51 => ⟨S_, .f32⟩
  | 52 => ⟨S32768, .f32⟩
  | 53 => ⟨S32768x1, .f32⟩
  | 54 => ⟨S32768x1, .f32⟩
  | 55 => ⟨S4x8, .f32⟩
  | 56 => ⟨S32, .f32⟩
  | 57 => ⟨S1x32, .f32⟩
  | 58 => ⟨S32768x32, .f32⟩
  | 59 => ⟨S32768x32, .f32⟩
  | 60 => ⟨S32768x32, .i1⟩
  | 61 => ⟨S32768x32, .f32⟩
  | 62 => ⟨S1x32, .f32⟩
  | 63 => ⟨S32768x32, .f32⟩
  | 64 => ⟨S32768x32, .f32⟩
  | 65 => ⟨S_, .f32⟩
  | 66 => ⟨S_, .f32⟩
  | 67 => ⟨S32768x32, .f32⟩
  | 68 => ⟨S32768x32, .f32⟩
  | 69 => ⟨S_, .f32⟩
  | 70 => ⟨S32768, .f32⟩
  | 71 => ⟨S32768x1, .f32⟩
  | 72 => ⟨S32768x32, .f32⟩
  | 73 => ⟨S32768x32, .i1⟩
  | 74 => ⟨S_, .f32⟩
  | 75 => ⟨S_, .f32⟩
  | 76 => ⟨S32768x32, .f32⟩
  | 77 => ⟨S32768x32, .f32⟩
  | 78 => ⟨S32768x32, .f32⟩
  | 79 => ⟨S_, .f32⟩
  | 80 => ⟨S32768, .f32⟩
  | 81 => ⟨S32768x1, .f32⟩
  | 82 => ⟨S1x32, .f32⟩
  | 83 => ⟨S32768x32, .f32⟩
  | 84 => ⟨S32768x32, .f32⟩
  | 85 => ⟨S32768x32, .i1⟩
  | 86 => ⟨S_, .f32⟩
  | 87 => ⟨S_, .f32⟩
  | 88 => ⟨S32768x32, .f32⟩
  | 89 => ⟨S32768x32, .f32⟩
  | 90 => ⟨S_, .f32⟩
  | 91 => ⟨S32768, .f32⟩
  | 92 => ⟨S32768x1, .f32⟩
  | 93 => ⟨S32768x32, .f32⟩
  | 94 => ⟨S32768x32, .i1⟩
  | 95 => ⟨S_, .f32⟩
  | 96 => ⟨S_, .f32⟩
  | 97 => ⟨S32768x32, .f32⟩
  | 98 => ⟨S32768x32, .f32⟩
  | 99 => ⟨S32768x32, .f32⟩
  | 100 => ⟨S_, .f32⟩
  | 101 => ⟨S32768, .f32⟩
  | 102 => ⟨S32768x1, .f32⟩
  | 103 => ⟨S32768x32, .f32⟩
  | 104 => ⟨S32768x32, .f32⟩
  | 105 => ⟨S32768x32, .f32⟩
  | 106 => ⟨S_, .f32⟩
  | 107 => ⟨S32768, .f32⟩
  | 108 => ⟨S32768x1, .f32⟩
  | 109 => ⟨S32768x1, .f32⟩
  | 110 => ⟨S32768x1, .f32⟩
  | 111 => ⟨S32768x1, .f32⟩
  | 112 => ⟨S32768x1, .f32⟩
  | 113 => ⟨S32768x1, .f32⟩
  | 114 => ⟨S32768x1, .f32⟩
  | 115 => ⟨S32768, .i32⟩
  | 116 => ⟨S1x32768, .i32⟩
  | 117 => ⟨S32768x1, .i32⟩
  | 118 => ⟨S32768x32768, .i32⟩
  | 119 => ⟨S32768x32768, .i32⟩
  | 120 => ⟨S32768x32768, .i1⟩
  | 121 => ⟨S1x32, .f32⟩
  | 122 => ⟨S32768x32, .f32⟩
  | 123 => ⟨S32768x32, .f32⟩
  | 124 => ⟨S32768x32, .i1⟩
  | 125 => ⟨S1x32, .f32⟩
  | 126 => ⟨S32768x32, .f32⟩
  | 127 => ⟨S32768x32, .f32⟩
  | _ => ⟨S32768x1024, .bf16⟩

abbrev hbmTy0_1 (i : Nat) : BufTy := match i % 128 with
  | 0 => ⟨S32768x32, .i1⟩
  | 1 => ⟨S32768x32, .i1⟩
  | 2 => ⟨S_, .f32⟩
  | 3 => ⟨S_, .f32⟩
  | 4 => ⟨S32768x32, .f32⟩
  | 5 => ⟨S32768x32, .f32⟩
  | 6 => ⟨S32768x32, .f32⟩
  | 7 => ⟨S32768x32, .f32⟩
  | 8 => ⟨S_, .f32⟩
  | 9 => ⟨S32, .f32⟩
  | 10 => ⟨S1x32, .f32⟩
  | 11 => ⟨S32768x1, .f32⟩
  | 12 => ⟨S32768x1, .f32⟩
  | 13 => ⟨S32768x1, .f32⟩
  | 14 => ⟨S32768x1, .f32⟩
  | 15 => ⟨S32768x1, .f32⟩
  | 16 => ⟨S32768x1, .f32⟩
  | 17 => ⟨S1x32768, .f32⟩
  | 18 => ⟨S32768x32768, .f32⟩
  | 19 => ⟨S32768x32768, .f32⟩
  | 20 => ⟨S32768x32768, .i1⟩
  | 21 => ⟨S1x32768, .f32⟩
  | 22 => ⟨S32768x32768, .f32⟩
  | 23 => ⟨S32768x32768, .f32⟩
  | 24 => ⟨S32768x32768, .i1⟩
  | 25 => ⟨S32768x32768, .i1⟩
  | 26 => ⟨S32768x32768, .i1⟩
  | 27 => ⟨S_, .f32⟩
  | 28 => ⟨S_, .f32⟩
  | 29 => ⟨S32768x32768, .f32⟩
  | 30 => ⟨S32768x32768, .f32⟩
  | 31 => ⟨S32768x32768, .f32⟩
  | 32 => ⟨S32768x32768, .f32⟩
  | 33 => ⟨S_, .f32⟩
  | 34 => ⟨S32768, .f32⟩
  | 35 => ⟨S32768x1, .f32⟩
  | 36 => ⟨S1x32768, .f32⟩
  | 37 => ⟨S32768x32768, .f32⟩
  | 38 => ⟨S32768x32768, .f32⟩
  | 39 => ⟨S32768x32768, .i1⟩
  | 40 => ⟨S1x32768, .f32⟩
  | 41 => ⟨S32768x32768, .f32⟩
  | 42 => ⟨S32768x32768, .f32⟩
  | 43 => ⟨S32768x32768, .i1⟩
  | 44 => ⟨S32768x32768, .i1⟩
  | 45 => ⟨S32768x32768, .i1⟩
  | 46 => ⟨S_, .f32⟩
  | 47 => ⟨S_, .f32⟩
  | 48 => ⟨S32768x32768, .f32⟩
  | 49 => ⟨S32768x32768, .f32⟩
  | 50 => ⟨S32768x32768, .f32⟩
  | 51 => ⟨S32768x32768, .f32⟩
  | 52 => ⟨S_, .f32⟩
  | 53 => ⟨S32768, .f32⟩
  | 54 => ⟨S32768x1, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_call1_v0 : Ref sig .tc := ⟨.hbm, 66, rfl⟩
abbrev main_call1_v1 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_call3_v0 : Ref sig .tc := ⟨.hbm, 87, rfl⟩
abbrev main_call3_v1 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_15 : Ref sig .tc := ⟨.hbm, 130, rfl⟩
abbrev main_cst_16 : Ref sig .tc := ⟨.hbm, 131, rfl⟩
abbrev main_call5_v0 : Ref sig .tc := ⟨.hbm, 132, rfl⟩
abbrev main_call5_v1 : Ref sig .tc := ⟨.hbm, 133, rfl⟩
abbrev main_v93 : Ref sig .tc := ⟨.hbm, 134, rfl⟩
abbrev main_v94 : Ref sig .tc := ⟨.hbm, 135, rfl⟩
abbrev main_cst_17 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_18 : Ref sig .tc := ⟨.hbm, 155, rfl⟩
abbrev main_cst_19 : Ref sig .tc := ⟨.hbm, 156, rfl⟩
abbrev main_call6_v0 : Ref sig .tc := ⟨.hbm, 157, rfl⟩
abbrev main_call6_v1 : Ref sig .tc := ⟨.hbm, 158, rfl⟩
abbrev main_v113 : Ref sig .tc := ⟨.hbm, 159, rfl⟩
abbrev main_v114 : Ref sig .tc := ⟨.hbm, 160, rfl⟩
abbrev main_cst_20 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_21 : Ref sig .tc := ⟨.hbm, 174, rfl⟩
abbrev main_cst_22 : Ref sig .tc := ⟨.hbm, 175, rfl⟩
abbrev main_call7_v0 : Ref sig .tc := ⟨.hbm, 176, rfl⟩
abbrev main_call7_v1 : Ref sig .tc := ⟨.hbm, 177, rfl⟩
abbrev main_v127 : Ref sig .tc := ⟨.hbm, 178, rfl⟩
abbrev main_v128 : Ref sig .tc := ⟨.hbm, 179, rfl⟩
abbrev main_cst_23 : Ref sig .tc := ⟨.hbm, 180, rfl⟩
abbrev main_v129 : Ref sig .tc := ⟨.hbm, 181, rfl⟩
abbrev main_v130 : Ref sig .tc := ⟨.hbm, 182, rfl⟩

abbrev nD : Nat := 1
abbrev τ : Topo := Topo.v7x

variable {F : FTy → Type} [FloatOps F]
-- ==== Proof.FfnOk.lean ====
module

public import proofs.«01_k».proof.Defs
public import proofs.«01_k».proof.Proof.Gen.FfnIdeal.Frame
public import proofs.«01_k».proof.Proof.Gen.Pre_tile_expert_in_range
public import Idealize.ShloMosaic.Lib.Affine
public import Idealize.ShloMosaic.Lib.Pointwise

@[expose] public section

set_option maxRecDepth 16384

namespace Cert.FfnProof

open Cert.FfnIdeal Cert.FfnIdeal.Gen
open Idealize.ShloMosaic Idealize.ShloMosaic.TcCoe

variable {F : FTy → Type} [FloatOps F]

/-- The predicate `(te >= 0) & (te < 32)`, decoded at one word of the table. -/
theorem te_lt {te : IVec S160 32} {x : FVec F S81920x1024 .f32} {wg wu : FVec F S4x8x1024x256 .f32} {wd : FVec F S4x8x256x1024 .f32}
    (h : Cert.Pre_tile_expert_in_range.fn te x wg wu wd = fun _ => 1#1) (y : S160.Idx) : (te y).toNat < 32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_tile_expert_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- The word of the table that the three index maps read at a grid point. -/
abbrev word (pf : pre0.Contents (Elt F)) (i : grid0.Coords) : BitVec 32 :=
  pf.at 0 (Rect.unit (s := S160) (k0_off1 i) S1.size (k0_off1_inb i)) numel1_S1

theorem map1_eq (pf : pre0.Contents (Elt F)) (i : grid0.Coords) :
    cc0_transform_1 k0_off1_inb numel1_S1 pf i = ![(word pf i).toNat, 0, 0] := rfl
theorem map2_eq (pf : pre0.Contents (Elt F)) (i : grid0.Coords) :
    cc0_transform_2 k0_off1_inb numel1_S1 pf i = ![(word pf i).toNat, 0, 0] := rfl
theorem map3_eq (pf : pre0.Contents (Elt F)) (i : grid0.Coords) :
    cc0_transform_3 k0_off1_inb numel1_S1 pf i = ![(word pf i).toNat, 0, 0] := rfl

/-- It is the word at the point's own number. -/
theorem word_eq (pf : pre0.Contents (Elt F)) (t : Fin grid0.N) (h : t.val < 160) :
    word pf (grid0.coords t) = (pf 0 : IVec S160 32) (ix1 ⟨t.val, h⟩) := by
  have hk : ∀ t : Fin grid0.N, k0_off1 (grid0.coords t) = ![t.val] := by decide +kernel
  show (pf 0 : IVec S160 32) _ = _
  congr 1
  refine funext fun (a : Fin 1) => Fin.ext ?_
  obtain rfl : a = 0 := Subsingleton.elim _ _
  have h0 : k0_off1 (grid0.coords t) 0 = t.val := congrFun (hk t) 0
  show k0_off1 (grid0.coords t) 0 + 1 * 0 = t.val
  omega

/-- THE PRECONDITION GIVES THE PIPELINE'S SIDE CONDITION: every block the table names lies inside its array. -/
theorem ok_of_lt (m : (ℓ : Loc nD τ sig) → Buf (Elt F) ℓ)
    (h : ∀ c : Dev nD, ∀ y : S160.Idx, ((m ((c.tc : Thread nD τ).loc main_arg0) : IVec S160 32) y).toNat < 32) : Ok m := by
  have ht : ∀ y : S160.Idx, ((tbl m 0 : IVec S160 32) y).toNat < 32 := fun y => by
    have e : (tbl m 0 : IVec S160 32) = m (((0 : Dev nD).tc : Thread nD τ).loc main_arg0) := V_main_arg0 m 0
    rw [e]; exact h 0 y
  have hw : ∀ i, (word (tbl m) i).toNat < 32 := fun i => ht _
  refine ⟨fun i => ⟨fun a => ?_, .inr (Affine.block_words_dvd (by decide) (by decide))⟩,
    fun i => ⟨fun a => ?_, .inr (Affine.block_words_dvd (by decide) (by decide))⟩,
    fun i => ⟨fun a => ?_, .inr (Affine.block_words_dvd (by decide) (by decide))⟩⟩
  all_goals
    first | rw [map1_eq] | rw [map2_eq] | rw [map3_eq]
    have := hw i
    fin_cases a
    · show ((word (tbl m) i).toNat + 1) * 1 ≤ 32; omega
    · show (0 + 1) * _ ≤ _; exact Nat.le_of_eq (Nat.one_mul _)
    · show (0 + 1) * _ ≤ _; exact Nat.le_of_eq (Nat.one_mul _)

end Cert.FfnProof

end
-- ==== Proof.FfnRef.lean ====
module

public import proofs.«01_k».proof.Proof.Gen.FfnRefIdeal.Run
public import Idealize.ShloMosaic.Lib.Pointwise

@[expose] public section

set_option maxRecDepth 16384

noncomputable section

namespace Cert.FfnRefIdeal.Value

open Cert.FfnRefIdeal Cert.FfnRefIdeal.Gen
open Idealize.ShloMosaic Idealize.ShloMosaic.TcCoe Idealize.SL.Sem

/-- One hidden entry of one expert: `silu(x · w_gate) * (x · w_up)`, for expert `e` of shard `g`, row `r`, lane `f`. -/
def hidden (x : FVec Ideal S81920x1024 .f32) (wg wu : FVec Ideal S4x8x1024x256 .f32) (g : Fin 4) (e : Fin 8) (r : Fin 81920) (f : Fin 256) : EReal :=
  ((∑ k : Fin 1024, x (ix2 r k) * wg (ix4 g e k f)) * Ideal.div 1 (1 + Ideal.exp (-∑ k : Fin 1024, x (ix2 r k) * wg (ix4 g e k f))))
    * ∑ k : Fin 1024, x (ix2 r k) * wu (ix4 g e k f)

/-- Row `r` under the one expert `w`, as a number below 32: the hidden row times that expert's second matrix. -/
def expertRow (w : ℕ) (x : FVec Ideal S81920x1024 .f32) (wg wu : FVec Ideal S4x8x1024x256 .f32) (wd : FVec Ideal S4x8x256x1024 .f32)
    (r : Fin 81920) (d : Fin 1024) : EReal :=
  ∑ f : Fin 256, hidden x wg wu ⟨w / 8 % 4, Nat.mod_lt _ (by decide)⟩ ⟨w % 8, Nat.mod_lt _ (by decide)⟩ r f
    * wd (ix4 ⟨w / 8 % 4, Nat.mod_lt _ (by decide)⟩ ⟨w % 8, Nat.mod_lt _ (by decide)⟩ f d)

/-- The combine weight: 1 on the tile's own expert and 0 on the others. -/
theorem weight (w : BitVec 32) (n : ℕ) (hn : n < 32) (hw : w.toNat < 32) :
    (FloatOps.uitofp FTy.f32 (IntOp.cmpi .eq w (BitVec.ofNat 32 n)) : Ideal .f32) = if w.toNat = n then (1 : EReal) else 0 := by
  have e : (w = BitVec.ofNat 32 n) ↔ w.toNat = n := by
    rw [← BitVec.toNat_inj, BitVec.toNat_ofNat, Nat.mod_eq_of_lt (by omega)]
  by_cases h : w.toNat = n
  · have : IntOp.cmpi .eq w (BitVec.ofNat 32 n) = 1#1 := by simp [IntOp.cmpi, e.2 h]
    rw [this, if_pos h]; show (((1#1).toNat : ℝ) : EReal) = 1; simp
  · have : IntOp.cmpi .eq w (BitVec.ofNat 32 n) = 0#1 := by
      have h' : ¬ w = BitVec.ofNat 32 n := fun q => h (e.1 q)
      simp only [IntOp.cmpi, beq_eq_false_iff_ne.2 h']; rfl
    rw [this, if_neg h]; show (((0#1).toNat : ℝ) : EReal) = 0; simp

/-- One shard's share of a row: all of it when the tile's expert is among the shard's eight, nothing otherwise. -/
theorem shard (w : BitVec 32) (hw : w.toNat < 32) (g : ℕ) (hg : g < 4) (H D : Fin 8 → Fin 256 → EReal) :
    (∑ e : Fin 8, ∑ f : Fin 256, H e f * (FloatOps.uitofp FTy.f32 (IntOp.cmpi .eq w (BitVec.ofNat 32 (8 * g + e.val))) : Ideal .f32) * D e f)
      = if w.toNat / 8 = g then ∑ f : Fin 256, H ⟨w.toNat % 8, Nat.mod_lt _ (by decide)⟩ f * D ⟨w.toNat % 8, Nat.mod_lt _ (by decide)⟩ f else 0 := by
  have hin : ∀ (e : Fin 8) (f : Fin 256), H e f * (FloatOps.uitofp FTy.f32 (IntOp.cmpi .eq w (BitVec.ofNat 32 (8 * g + e.val))) : Ideal .f32) * D e f
      = if w.toNat = 8 * g + e.val then H e f * D e f else 0 := by
    intro e f
    rw [weight w _ (by omega) hw]
    split
    · exact congrArg (· * D e f) (mul_one (H e f))
    · exact (congrArg (· * D e f) (mul_zero (H e f))).trans (zero_mul _)
  simp only [hin]
  split
  · rename_i h
    rw [Finset.sum_eq_single ⟨w.toNat % 8, Nat.mod_lt _ (by decide)⟩]
    · exact Finset.sum_congr rfl fun f _ => if_pos (by show w.toNat = 8 * g + w.toNat % 8; omega)
    · intro e _ he
      refine Finset.sum_eq_zero fun f _ => if_neg fun q => he (Fin.ext ?_)
      show e.val = w.toNat % 8
      omega
    · intro h'; exact absurd (Finset.mem_univ _) h'
  · rename_i h
    refine Finset.sum_eq_zero fun e _ => Finset.sum_eq_zero fun f _ => if_neg fun q => h ?_
    omega

variable (m : (ℓ : Loc nD τ sig) → Buf (Elt Ideal) ℓ)

/-- The reference, read at a row and a column: the dense sum over every shard and expert keeps the row's own expert alone. -/
theorem res_at (c : Dev nD) (h : ∀ y : S160.Idx, ((m ((c.tc : Thread nD τ).loc main_arg0) : IVec S160 32) y).toNat < 32)
    (r : Fin 81920) (d : Fin 1024) :
    (show EReal from (res_out0 m c : FVec Ideal S81920x1024 .f32) (ix2 r d))
      = expertRow ((m ((c.tc : Thread nD τ).loc main_arg0) : IVec S160 32) (ix1 ⟨r.val / 512, by omega⟩)).toNat
          (m ((c.tc : Thread nD τ).loc main_arg1)) (m ((c.tc : Thread nD τ).loc main_arg2)) (m ((c.tc : Thread nD τ).loc main_arg3))
          (m ((c.tc : Thread nD τ).loc main_arg4)) r d := by
  have hw := h (ix1 ⟨r.val / 512, by omega⟩)
  generalize hwd : ((m ((c.tc : Thread nD τ).loc main_arg0) : IVec S160 32) (ix1 ⟨r.val / 512, by omega⟩)) = w at hw ⊢
  pointwise [res_main_v72]
  rw [hwd]
  have S0 := shard w hw 0 (by decide) (fun e f => hidden (m ((c.tc : Thread nD τ).loc main_arg1)) (m ((c.tc : Thread nD τ).loc main_arg2)) (m ((c.tc : Thread nD τ).loc main_arg3)) 0 e r f) (fun e f => (m ((c.tc : Thread nD τ).loc main_arg4) : FVec Ideal S4x8x256x1024 .f32) (ix4 0 e f d))
  have S1 := shard w hw 1 (by decide) (fun e f => hidden (m ((c.tc : Thread nD τ).loc main_arg1)) (m ((c.tc : Thread nD τ).loc main_arg2)) (m ((c.tc : Thread nD τ).loc main_arg3)) 1 e r f) (fun e f => (m ((c.tc : Thread nD τ).loc main_arg4) : FVec Ideal S4x8x256x1024 .f32) (ix4 1 e f d))
  have S2 := shard w hw 2 (by decide) (fun e f => hidden (m ((c.tc : Thread nD τ).loc main_arg1)) (m ((c.tc : Thread nD τ).loc main_arg2)) (m ((c.tc : Thread nD τ).loc main_arg3)) 2 e r f) (fun e f => (m ((c.tc : Thread nD τ).loc main_arg4) : FVec Ideal S4x8x256x1024 .f32) (ix4 2 e f d))
  have S3 := shard w hw 3 (by decide) (fun e f => hidden (m ((c.tc : Thread nD τ).loc main_arg1)) (m ((c.tc : Thread nD τ).loc main_arg2)) (m ((c.tc : Thread nD τ).loc main_arg3)) 3 e r f) (fun e f => (m ((c.tc : Thread nD τ).loc main_arg4) : FVec Ideal S4x8x256x1024 .f32) (ix4 3 e f d))
  simp only [Nat.mul_zero, Nat.zero_add, Nat.mul_one, show 8 * 2 = 16 from rfl, show 8 * 3 = 24 from rfl] at S0 S1 S2 S3
  refine (congrArg₂ (· + ·) (congrArg₂ (· + ·) (congrArg₂ (· + ·) S0 S1) S2) S3).trans ?_
  unfold expertRow
  have hc : w.toNat / 8 = 0 ∨ w.toNat / 8 = 1 ∨ w.toNat / 8 = 2 ∨ w.toNat / 8 = 3 := by omega
  rcases hc with hc | hc | hc | hc <;> simp [hc]

end Cert.FfnRefIdeal.Value

end
-- ==== Proof.FfnValue.lean ====
module

public import proofs.«01_k».proof.Proof.FfnOk
public import proofs.«01_k».proof.Proof.FfnRef
public import Idealize.ShloMosaic.Lib.Pipeline.ValueKit
public import Idealize.ShloMosaic.Lib.Pipeline.Covers
public import Idealize.ShloMosaic.Lib.Claim

@[expose] public section

set_option maxRecDepth 16384

noncomputable section

namespace Cert.FfnProof

open Cert.FfnIdeal Cert.FfnIdeal.Gen
open Idealize.ShloMosaic Idealize.ShloMosaic.TcCoe Idealize.SL.Sem

/-- The body's payload at a row and a column of its tile. -/
theorem pay_at (x : FVec Ideal S512x1024 .f32) (g u : FVec Ideal S1x1024x256 .bf16) (w : FVec Ideal S1x256x1024 .bf16) (r : Fin 512) (d : Fin 1024) :
    (show EReal from k0_pay1 (F := Ideal) x g u w (ix2 r d)) = ∑ f : Fin 256,
      ((∑ k : Fin 1024, x (ix2 r k) * g (ix3 0 k f)) * Ideal.div 1 (1 + Ideal.exp (-∑ k : Fin 1024, x (ix2 r k) * g (ix3 0 k f)))
        * ∑ k : Fin 1024, x (ix2 r k) * u (ix3 0 k f)) * w (ix3 0 f d) := by
  pointwise [k0_pay1]
  rfl

/-- The payload at an entry of its tile is a row of the expert whose weights the blocks hold. -/
theorem pay_expertRow (w : ℕ) (X : FVec Ideal S81920x1024 .f32) (WG WU : FVec Ideal S4x8x1024x256 .f32) (WD : FVec Ideal S4x8x256x1024 .f32)
    (x : FVec Ideal S512x1024 .f32) (g u : FVec Ideal S1x1024x256 .bf16) (wd : FVec Ideal S1x256x1024 .bf16) (r : Fin 512) (R : Fin 81920) (d : Fin 1024)
    (hx : ∀ k, x (ix2 r k) = X (ix2 R k))
    (hg : ∀ k f, g (ix3 0 k f) = WG (ix4 ⟨w / 8 % 4, Nat.mod_lt _ (by decide)⟩ ⟨w % 8, Nat.mod_lt _ (by decide)⟩ k f))
    (hu : ∀ k f, u (ix3 0 k f) = WU (ix4 ⟨w / 8 % 4, Nat.mod_lt _ (by decide)⟩ ⟨w % 8, Nat.mod_lt _ (by decide)⟩ k f))
    (hd : ∀ f, wd (ix3 0 f d) = WD (ix4 ⟨w / 8 % 4, Nat.mod_lt _ (by decide)⟩ ⟨w % 8, Nat.mod_lt _ (by decide)⟩ f d)) :
    (show EReal from k0_pay1 (F := Ideal) x g u wd (ix2 r d)) = Cert.FfnRefIdeal.Value.expertRow w X WG WU WD R d := by
  rw [pay_at]
  simp only [hx, hg, hu, hd]
  rfl

variable (m : (ℓ : Loc nD τ sig) → Buf (Elt Ideal) ℓ)

/-- An entry of the flattened weights the region finds, in the argument's own shape. -/
theorem gate_entry (c : Dev nD) (e : ℕ) (he : e < 32) (k : Fin 1024) (f : Fin 256) :
    (V m c main_v1 : FVec Ideal S32x1024x256 .bf16) (ix3 ⟨e, he⟩ k f)
      = (m ((c.tc : Thread nD τ).loc main_arg2) : FVec Ideal S4x8x1024x256 .f32) (ix4 ⟨e / 8 % 4, Nat.mod_lt _ (by decide)⟩ ⟨e % 8, Nat.mod_lt _ (by decide)⟩ k f) := by
  entry_read
  pointwise
  exact congrArg (fun q : Fin 4 => (m ((c.tc : Thread nD τ).loc main_arg2) : FVec Ideal S4x8x1024x256 .f32) (ix4 q ⟨e % 8, Nat.mod_lt _ (by decide)⟩ k f)) (Fin.ext (Nat.mod_eq_of_lt (by omega)).symm)
/-- An entry of the flattened weights the region finds, in the argument's own shape. -/
theorem up_entry (c : Dev nD) (e : ℕ) (he : e < 32) (k : Fin 1024) (f : Fin 256) :
    (V m c main_v3 : FVec Ideal S32x1024x256 .bf16) (ix3 ⟨e, he⟩ k f)
      = (m ((c.tc : Thread nD τ).loc main_arg3) : FVec Ideal S4x8x1024x256 .f32) (ix4 ⟨e / 8 % 4, Nat.mod_lt _ (by decide)⟩ ⟨e % 8, Nat.mod_lt _ (by decide)⟩ k f) := by
  entry_read
  pointwise
  exact congrArg (fun q : Fin 4 => (m ((c.tc : Thread nD τ).loc main_arg3) : FVec Ideal S4x8x1024x256 .f32) (ix4 q ⟨e % 8, Nat.mod_lt _ (by decide)⟩ k f)) (Fin.ext (Nat.mod_eq_of_lt (by omega)).symm)
/-- An entry of the flattened weights the region finds, in the argument's own shape. -/
theorem down_entry (c : Dev nD) (e : ℕ) (he : e < 32) (f : Fin 256) (d : Fin 1024) :
    (V m c main_v5 : FVec Ideal S32x256x1024 .bf16) (ix3 ⟨e, he⟩ f d)
      = (m ((c.tc : Thread nD τ).loc main_arg4) : FVec Ideal S4x8x256x1024 .f32) (ix4 ⟨e / 8 % 4, Nat.mod_lt _ (by decide)⟩ ⟨e % 8, Nat.mod_lt _ (by decide)⟩ f d) := by
  entry_read
  pointwise
  exact congrArg (fun q : Fin 4 => (m ((c.tc : Thread nD τ).loc main_arg4) : FVec Ideal S4x8x256x1024 .f32) (ix4 q ⟨e % 8, Nat.mod_lt _ (by decide)⟩ f d)) (Fin.ext (Nat.mod_eq_of_lt (by omega)).symm)

/-- What the result array is to hold: row `r` under the expert of its tile. -/
def G (c : Dev nD) : FVec Ideal S81920x1024 .f32 := fun i =>
  Cert.FfnRefIdeal.Value.expertRow ((m ((c.tc : Thread nD τ).loc main_arg0) : IVec S160 32) (ix1 ⟨(i 0).val / 512, by have : (i 0).val < 81920 := (i 0).isLt; omega⟩)).toNat
    (m ((c.tc : Thread nD τ).loc main_arg1)) (m ((c.tc : Thread nD τ).loc main_arg2)) (m ((c.tc : Thread nD τ).loc main_arg3))
    (m ((c.tc : Thread nD τ).loc main_arg4)) (i 0) (i 1)

theorem G_at (c : Dev nD) (r : Fin 81920) (d : Fin 1024) : G m c (ix2 r d) =
    Cert.FfnRefIdeal.Value.expertRow ((m ((c.tc : Thread nD τ).loc main_arg0) : IVec S160 32) (ix1 ⟨r.val / 512, by omega⟩)).toNat
      (m ((c.tc : Thread nD τ).loc main_arg1)) (m ((c.tc : Thread nD τ).loc main_arg2)) (m ((c.tc : Thread nD τ).loc main_arg3))
      (m ((c.tc : Thread nD τ).loc main_arg4)) r d := rfl

/-- A weight window's block at point `t`: the table's word names the expert. -/
theorem gate_block (hO : Ok m) (c : Dev nD) (t : Fin (cfgM m hO).N) (k : Fin 1024) (f : Fin 256) (hw : (word (tbl m) (grid0.coords t)).toNat < 32) :
    (iblk m hO c 1 t : FVec Ideal S1x1024x256 .bf16) (ix3 0 k f) = (V m c main_v1 : FVec Ideal S32x1024x256 .bf16) (ix3 ⟨_, hw⟩ k f) := by
  have hix : ((cfgM m hO).win 1).index t = ![(word (tbl m) (grid0.coords t)).toNat, 0, 0] := map1_eq _ _
  blk_ext [iblk, hix]

/-- A weight window's block at point `t`: the table's word names the expert. -/
theorem up_block (hO : Ok m) (c : Dev nD) (t : Fin (cfgM m hO).N) (k : Fin 1024) (f : Fin 256) (hw : (word (tbl m) (grid0.coords t)).toNat < 32) :
    (iblk m hO c 2 t : FVec Ideal S1x1024x256 .bf16) (ix3 0 k f) = (V m c main_v3 : FVec Ideal S32x1024x256 .bf16) (ix3 ⟨_, hw⟩ k f) := by
  have hix : ((cfgM m hO).win 2).index t = ![(word (tbl m) (grid0.coords t)).toNat, 0, 0] := map2_eq _ _
  blk_ext [iblk, hix]

/-- A weight window's block at point `t`: the table's word names the expert. -/
theorem down_block (hO : Ok m) (c : Dev nD) (t : Fin (cfgM m hO).N) (k : Fin 256) (f : Fin 1024) (hw : (word (tbl m) (grid0.coords t)).toNat < 32) :
    (iblk m hO c 3 t : FVec Ideal S1x256x1024 .bf16) (ix3 0 k f) = (V m c main_v5 : FVec Ideal S32x256x1024 .bf16) (ix3 ⟨_, hw⟩ k f) := by
  have hix : ((cfgM m hO).win 3).index t = ![(word (tbl m) (grid0.coords t)).toNat, 0, 0] := map3_eq _ _
  blk_ext [iblk, hix]

theorem x_block (hO : Ok m) (c : Dev nD) (t : Fin (cfgM m hO).N) (ht : t.val < 160) (r : Fin 512) (k : Fin 1024) :
    (iblk m hO c 0 t : FVec Ideal S512x1024 .f32) (ix2 r k) = (m ((c.tc : Thread nD τ).loc main_arg1) : FVec Ideal S81920x1024 .f32) (ix2 ⟨t.val * 512 + r.val, by omega⟩ k) := by
  have hix : ((cfgM m hO).win 0).index t = ![t.val, 0] := (by decide +kernel : ∀ t : Fin grid0.N, cc0_transform_0 (grid0.coords t) = ![t.val, 0]) t
  blk_ext [iblk, V, hix]

theorem covers (hO : Ok m) : ((cfgM m hO).win 4).Covers := by
  refine ((cfgM m hO).win 4).covers_of_indexMap_surj rfl (by decide : ∀ a : Fin 2, 0 < S512x1024.size a) ?_
  intro β
  have hb : ∀ a : Fin 2, ((cfgM m hO).win 4).nblk a = (![160, 1] : Fin 2 → ℕ) a :=
    (by decide +kernel : ∀ a : Fin 2, (S81920x1024.size a + S512x1024.size a - 1) / S512x1024.size a = (![160, 1] : Fin 2 → ℕ) a)
  have h0 : (β (0 : Fin 2)).val < 160 := Nat.lt_of_lt_of_eq (β (0 : Fin 2)).isLt (hb 0)
  refine ⟨fun (x : Fin 1) => ⟨(β (0 : Fin 2)).val, by obtain rfl : x = 0 := Subsingleton.elim _ _; exact h0⟩, fun (a : Fin 2) => ?_⟩
  fin_cases a
  · show (BitVec.ofNat 32 (β (0 : Fin 2)).val).toNat = (β (0 : Fin 2)).val
    rw [BitVec.toNat_ofNat, Nat.mod_eq_of_lt (by omega)]
  · have h1 : (β (1 : Fin 2)).val < 1 := Nat.lt_of_lt_of_eq (β (1 : Fin 2)).isLt (hb 1)
    show 0 = (β (1 : Fin 2)).val
    omega

/-- What the body leaves in the output's buffer is its payload of the four blocks. -/
theorem out_eq (c : Dev nD) (i : grid0.Coords) (arg2 : Memref sig .tc .vmem S512x1024 .f32) (harg2 : arg2.IsWhole) (arg3 : Memref sig .tc .vmem S1x1024x256 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S512x1024 .f32) (harg6 : arg6.IsWhole)
    (x0 : FVec Ideal S512x1024 .f32) (x1 x2 : FVec Ideal S1x1024x256 .bf16) (x3 : FVec Ideal S1x256x1024 .bf16) (xt0 : TbBuf0 (F := Ideal) c tbM0_0) :
    out0_A_4 (F := Ideal) c i arg2 harg2 arg3 harg3 arg4 harg4 arg5 harg5 arg6 harg6 x0 x1 x2 x3 xt0 = k0_pay1 (F := Ideal) x0 x1 x2 x3 := by
  frame_out

/-- THE RESULT ARRAY: every row under its tile's expert. -/
theorem final (h : ∀ c : Dev nD, ∀ y : S160.Idx, ((m ((c.tc : Thread nD τ).loc main_arg0) : IVec S160 32) y).toNat < 32) (hO : Ok m) (c : Dev nD) :
    (dats m hO 0 c).arrAt 4 (cfgM m hO).N = G m c := by
  refine (dats m hO 0 c).arrAt_eq_of_covers 4 _ (covers m hO) fun t _ y => ?_
  blk_simp
  rw [after0_4]
  have ht : t.val < 160 := t.isLt
  have ew : word (tbl m) (grid0.coords t) = (m ((c.tc : Thread nD τ).loc main_arg0) : IVec S160 32) (ix1 ⟨t.val, ht⟩) := by
    rw [word_eq _ t ht, Subsingleton.elim c 0]
    exact congrFun (V_main_arg0 m 0) _
  have hw : (word (tbl m) (grid0.coords t)).toNat < 32 := by rw [ew]; exact h c _
  have hix : ((cfgM m hO).win 4).index t = ![t.val, 0] := (by decide +kernel : ∀ t : Fin grid0.N, cc0_transform_4 (grid0.coords t) = ![t.val, 0]) t
  obtain ⟨r, d, rfl⟩ : ∃ (r : Fin 512) (d : Fin 1024), y = (ix2 r d : S512x1024.Idx) := ⟨y (0 : Fin 2), y (1 : Fin 2), eq_ix2 _⟩
  have he : ((((cfgM m hO).win 4).blk t).view.emb (ix2 r d : S512x1024.Idx) : S81920x1024.Idx) = ix2 ⟨t.val * 512 + r.val, by omega⟩ d := by
    blk_ext [hix]
  refine (congrFun (out_eq c (grid0.coords t) _ _ _ _ _ _ _ _ _ _ (iblk m hO c 0 t) (iblk m hO c 1 t) (iblk m hO c 2 t) (iblk m hO c 3 t) (tbl m 0)) _).trans ?_
  refine Eq.trans ?_ (congrArg (G m c) he).symm
  rw [G_at]
  have e1 : (⟨(t.val * 512 + r.val) / 512, by omega⟩ : Fin 160) = ⟨t.val, ht⟩ := Fin.ext (by show (t.val * 512 + r.val) / 512 = t.val; omega)
  rw [show (ix1 ⟨(t.val * 512 + r.val) / 512, by omega⟩ : S160.Idx) = ix1 ⟨t.val, ht⟩ from congrArg ix1 e1, ← ew]
  exact pay_expertRow _ _ _ _ _ _ _ _ _ r _ d (fun k => x_block m hO c t ht r k)
    (fun k f => (gate_block m hO c t k f hw).trans (gate_entry m c _ hw k f))
    (fun k f => (up_block m hO c t k f hw).trans (up_entry m c _ hw k f))
    (fun f => (down_block m hO c t f d hw).trans (down_entry m c _ hw f d))

end Cert.FfnProof

end
-- ==== Proof.FfnClaims.lean ====
/- The certificate's conjuncts about the grouped expert layers: the frames of the kernel (both readings of its text) and
   of its reference under the precondition that every tile names an expert, and the equality of the two results. -/
module

public import proofs.«01_k».proof.Proof.FfnValue
public import proofs.«01_k».proof.Proof.Gen.Ffn.Frame
public import proofs.«01_k».proof.Proof.Gen.FfnRefIdeal.Run
public import Idealize.ShloMosaic.Lib.Claim

@[expose] public section

set_option maxRecDepth 16384

noncomputable section

namespace Cert.FfnProof

open Idealize.ShloMosaic Idealize.ShloMosaic.TcCoe Idealize.SL.Sem

attribute [local instance] Cert.Ffn.Gen.facts Cert.FfnIdeal.Gen.facts Cert.FfnRefIdeal.Gen.facts Cert.Pre_tile_expert_in_range.Gen.facts

theorem frame_ideal : Cert.quiescent_FfnIdeal := fun m g h =>
  Cert.FfnIdeal.Gen.frame m g (ok_of_lt m fun c y => te_lt (h c) y)

/-- The kernel at its bits: its text is the idealized program's, whose frame holds at any values. -/
theorem frame_bits : Cert.quiescent_Ffn := fun m g h =>
  Cert.Ffn.Gen.frame m g (ok_of_lt (F := Bits) m fun c y => te_lt (h c) y)

theorem frame_ref : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run (F := Ideal) m g)

theorem frame_ref_pre : Cert.quiescent_FfnRefIdeal_pre_tile_expert_in_range := fun m g _ => frame_ref m g trivial

/-- What the two programs end with: row `r` of the result is its expert's row, on the arguments they share. -/
theorem ref_eq (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (hb : ∀ y : Cert.FfnIdeal.S160.Idx, ((m ((c.tc : Thread Cert.FfnIdeal.nD Cert.FfnIdeal.τ).loc Cert.FfnIdeal.main_arg0) : IVec Cert.FfnIdeal.S160 32) y).toNat < 32)
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) :
    Cert.FfnRefIdeal.Value.res_out0 (F := Ideal) m' c = G m c := by
  refine funext fun i => ?_
  obtain ⟨r, d, rfl⟩ : ∃ (r : Fin 81920) (d : Fin 1024), i = (ix2 r d : Cert.FfnIdeal.S81920x1024.Idx) := ⟨i (0 : Fin 2), i (1 : Fin 2), eq_ix2 _⟩
  refine (Cert.FfnRefIdeal.Value.res_at m' c (fun y => by rw [h0]; exact hb y) r d).trans ?_
  rw [G_at, h0, h1, h2, h3, h4]

theorem algebraic : Cert.algebraic_FfnIdeal_FfnRefIdeal := fun m g m' g' hpre hagree =>
  have hb : ∀ c : Dev Cert.FfnIdeal.nD, ∀ y : Cert.FfnIdeal.S160.Idx, ((m ((c.tc : Thread Cert.FfnIdeal.nD Cert.FfnIdeal.τ).loc Cert.FfnIdeal.main_arg0) : IVec Cert.FfnIdeal.S160 32) y).toNat < 32 :=
    fun c y => te_lt (hpre c) y
  have hO := ok_of_lt m hb
  ⟨fun c => G m c,
    θ_run_mono (θ_run_and (Cert.FfnIdeal.Gen.run_main m g hO) (Cert.FfnIdeal.Gen.unchanged m g hO))
      fun _ h c => ⟨((h.1 c).1 4).trans (final m hb hO c), h.2 c⟩,
    θ_run_mono (Cert.FfnRefIdeal.Value.run (F := Ideal) m' g')
      fun _ h c => ⟨(h c).1.trans (ref_eq m m' c (hb c) (hagree c).1 (hagree c).2.1 (hagree c).2.2.1 (hagree c).2.2.2.1 (hagree c).2.2.2.2), (h c).2⟩⟩

end Cert.FfnProof

end
-- ==== Proof.QkvValue.lean ====
module

public import proofs.«01_k».proof.Proof.Gen.QkvIdeal.Frame
public import proofs.«01_k».proof.Proof.Gen.QkvRefIdeal.Run
public import Idealize.ShloMosaic.Lib.Pipeline.ValueKit
public import Idealize.ShloMosaic.Lib.Pipeline.Covers
public import Idealize.ShloMosaic.Lib.Pointwise
public import Idealize.ShloMosaic.Lib.Claim

/-! The first layer's projections: what the kernel leaves in its two results, entry by entry, over the arguments. -/

@[expose] public section

set_option maxRecDepth 16384

noncomputable section

namespace Cert.QkvProof

open Cert.QkvIdeal Cert.QkvIdeal.Gen
open Idealize.ShloMosaic Idealize.ShloMosaic.TcCoe Idealize.SL.Sem

/-- One entry of a row under RMS norm: the row over the root of its mean square, times the gain. -/
def normed (x g : Fin 1024 → EReal) (k : Fin 1024) : EReal :=
  x k * Ideal.rsqrt (Ideal.div (∑ j, x j * x j) (Ideal.ofBits FTy.f32 0x44800000#32) + Ideal.ofBits FTy.f32 0x358637BD#32) * g k

/-- Row `r` of the layer's input, its first two axes taken as one. -/
def xrow (X : FVec Ideal S8x4096x1024 .f32) (r : ℕ) (h : r < 32768) (k : Fin 1024) : EReal :=
  X (ix3 ⟨r / 4096, by omega⟩ ⟨r % 4096, Nat.mod_lt _ (by decide)⟩ k)

/-- An entry of the projections: the normed row times a column of the weights. -/
def proj (X : FVec Ideal S8x4096x1024 .f32) (g : FVec Ideal S1x1024 .f32) (W : FVec Ideal S1x1024x3072 .f32) (r : ℕ) (h : r < 32768) (d : Fin 3072) : EReal :=
  ∑ k : Fin 1024, normed (xrow X r h) (fun k => g (ix2 0 k)) k * W (ix3 0 k d)

/-- A lane of a block's mean key: the mean of the block's 256 rows, in the middle third of the projections. -/
def meanKey (X : FVec Ideal S8x4096x1024 .f32) (g : FVec Ideal S1x1024 .f32) (W : FVec Ideal S1x1024x3072 .f32) (b : Fin 128) (d : Fin 1024) : EReal :=
  Ideal.div (∑ s : Fin 256, proj X g W (b.val * 256 + s.val) (by omega) ⟨1024 + d.val, by omega⟩) (Ideal.ofBits FTy.f32 0x43800000#32)

theorem pay2_at (x : FVec Ideal S512x1024 .f32) (g : FVec Ideal S1x1024 .f32) (r : Fin 512) (d : Fin 1024) :
    (show EReal from k0_pay2 (F := Ideal) x g (ix2 r d)) = normed (fun k => x (ix2 r k)) (fun k => g (ix2 0 k)) d := by
  pointwise [k0_pay2]
  rfl

/-- The three stores of the body tile one product: the normed rows times the whole of the weights. -/
theorem out3_at (x : FVec Ideal S512x1024 .f32) (g : FVec Ideal S1x1024 .f32) (w : FVec Ideal S1024x3072 .bf16) (r : Fin 512) (d : Fin 3072) :
    (show EReal from out0_3 (F := Ideal) x g w (ix2 r d)) = ∑ k : Fin 1024, normed (fun k => x (ix2 r k)) (fun k => g (ix2 0 k)) k * w (ix2 k d) := by
  have e : ∀ y : S512x3072.Idx, (out0_3 (F := Ideal) x g w y : EReal) = ∑ k : Fin 1024, k0_pay2 (F := Ideal) x g (ix2 (y 0) k) * w (ix2 k (y 1)) := by
    intro y
    canon_tiles z h
    all_goals
      pointwise [k0_pay1, k0_pay5, k0_pay4, k0_pay3]
      blk_point []
  exact (e _).trans (Finset.sum_congr rfl fun k _ => congrArg (· * (w (ix2 k d) : EReal)) (pay2_at x g r k))

theorem out4_at (x : FVec Ideal S512x1024 .f32) (g : FVec Ideal S1x1024 .f32) (w : FVec Ideal S1024x3072 .bf16) (b : Fin 2) (d : Fin 1024) :
    (show EReal from out0_4 (F := Ideal) x g w (ix3 b 0 d))
      = Ideal.div (∑ s : Fin 256, ∑ k : Fin 1024, normed (fun k => x (ix2 ⟨b.val * 256 + s.val, by omega⟩ k)) (fun k => g (ix2 0 k)) k * w (ix2 k ⟨1024 + d.val, by omega⟩))
          (Ideal.ofBits FTy.f32 0x43800000#32) := by
  have e : out0_4 (F := Ideal) x g w = k0_pay6 (F := Ideal) x g (View.ld w r0_4) := by frame_out
  rw [e]
  pointwise [k0_pay6, k0_pay4]
  exact congrArg (fun s => Ideal.div s _) (Finset.sum_congr rfl fun s _ => Finset.sum_congr rfl fun k _ =>
    congrArg (· * (w (ix2 k ⟨1024 + d.val, by omega⟩) : EReal)) (pay2_at x g _ k))

variable (m : (ℓ : Loc nD τ sig) → Buf (Elt Ideal) ℓ)

theorem x_block (c : Dev nD) (t : Fin cfg0.N) (ht : t.val < 64) (r : Fin 512) (k : Fin 1024) :
    (iblk m c 0 t : FVec Ideal S512x1024 .f32) (ix2 r k)
      = xrow (m ((c.tc : Thread nD τ).loc main_arg0)) (t.val * 512 + r.val) (by omega) k := by
  have hix : win0_0.index t = ![t.val, 0] := (by decide +kernel : ∀ t : Fin grid0.N, win0_0.index t = ![t.val, 0]) t
  have e : (iblk m c 0 t : FVec Ideal S512x1024 .f32) (ix2 r k) = (V m c main_v0 : FVec Ideal S32768x1024 .f32) (ix2 ⟨t.val * 512 + r.val, by omega⟩ k) := by
    blk_ext [iblk, hix]
  rw [e]
  entry_read
  pointwise [xrow]

theorem g_block (c : Dev nD) (t : Fin cfg0.N) (k : Fin 1024) :
    (iblk m c 1 t : FVec Ideal S1x1024 .f32) (ix2 0 k) = (m ((c.tc : Thread nD τ).loc main_arg1) : FVec Ideal S1x1024 .f32) (ix2 0 k) := by
  have hix : win0_1.index t = ![0, 0] := (by decide +kernel : ∀ t : Fin grid0.N, win0_1.index t = ![0, 0]) t
  have e : (iblk m c 1 t : FVec Ideal S1x1024 .f32) (ix2 0 k) = (V m c main_v4 : FVec Ideal S1x1024 .f32) (ix2 0 k) := by
    blk_ext [iblk, hix]
  rw [e]
  entry_read
  pointwise

theorem w_block (c : Dev nD) (t : Fin cfg0.N) (k : Fin 1024) (d : Fin 3072) :
    (iblk m c 2 t : FVec Ideal S1024x3072 .bf16) (ix2 k d) = (m ((c.tc : Thread nD τ).loc main_arg2) : FVec Ideal S1x1024x3072 .f32) (ix3 0 k d) := by
  have hix : win0_2.index t = ![0, 0] := (by decide +kernel : ∀ t : Fin grid0.N, win0_2.index t = ![0, 0]) t
  have e : (iblk m c 2 t : FVec Ideal S1024x3072 .bf16) (ix2 k d) = (V m c main_v3 : FVec Ideal S1024x3072 .bf16) (ix2 k d) := by
    blk_ext [iblk, hix]
  rw [e]
  entry_read
  pointwise

/-- What the first result is to hold. -/
def G3 (c : Dev nD) : FVec Ideal S32768x3072 .bf16 := fun i =>
  proj (m ((c.tc : Thread nD τ).loc main_arg0)) (m ((c.tc : Thread nD τ).loc main_arg1)) (m ((c.tc : Thread nD τ).loc main_arg2)) (i 0).val (i 0).isLt (i 1)
/-- What the second result is to hold. -/
def G4 (c : Dev nD) : FVec Ideal S128x1x1024 .f32 := fun i =>
  meanKey (m ((c.tc : Thread nD τ).loc main_arg0)) (m ((c.tc : Thread nD τ).loc main_arg1)) (m ((c.tc : Thread nD τ).loc main_arg2)) (i 0) (i 2)

theorem final3 (c : Dev nD) : (dats m 0 c).arrAt 3 (cfgs 0).N = G3 m c := by
  refine (dats m 0 c).arrAt_eq_of_covers 3 _ (by decide +kernel) fun t _ y => ?_
  blk_simp
  rw [after0_3]
  have ht : t.val < 64 := t.isLt
  have hix : win0_3.index t = ![t.val, 0] := (by decide +kernel : ∀ t : Fin grid0.N, win0_3.index t = ![t.val, 0]) t
  obtain ⟨r, d, rfl⟩ : ∃ (r : Fin 512) (d : Fin 3072), y = (ix2 r d : S512x3072.Idx) := ⟨y (0 : Fin 2), y (1 : Fin 2), eq_ix2 _⟩
  have he : (((cfg0.win 3).blk t).view.emb (ix2 r d : S512x3072.Idx) : S32768x3072.Idx) = ix2 ⟨t.val * 512 + r.val, by omega⟩ d := by
    blk_ext [hix]
  refine (out3_at (iblk m c 0 t) (iblk m c 1 t) (iblk m c 2 t) r d).trans (Eq.trans ?_ (congrArg (G3 m c) he).symm)
  simp only [x_block m c t ht, g_block m c t, w_block m c t]
  rfl

theorem final4 (c : Dev nD) : (dats m 0 c).arrAt 4 (cfgs 0).N = G4 m c := by
  refine (dats m 0 c).arrAt_eq_of_covers 4 _ (by decide +kernel) fun t _ y => ?_
  blk_simp
  rw [after0_4]
  have ht : t.val < 64 := t.isLt
  have hix : win0_4.index t = ![t.val, 0, 0] := (by decide +kernel : ∀ t : Fin grid0.N, win0_4.index t = ![t.val, 0, 0]) t
  obtain ⟨b, d, rfl⟩ : ∃ (b : Fin 2) (d : Fin 1024), y = (ix3 b 0 d : S2x1x1024.Idx) := ⟨y (0 : Fin 3), y (2 : Fin 3), by
    rw [eq_ix3 y]; exact congrArg (fun q => ix3 _ q _) (Subsingleton.elim (α := Fin 1) _ _)⟩
  have he : (((cfg0.win 4).blk t).view.emb (ix3 b 0 d : S2x1x1024.Idx) : S128x1x1024.Idx) = ix3 ⟨t.val * 2 + b.val, by omega⟩ 0 d := by
    blk_ext [hix]
  refine (out4_at (iblk m c 0 t) (iblk m c 1 t) (iblk m c 2 t) b d).trans (Eq.trans ?_ (congrArg (G4 m c) he).symm)
  simp only [x_block m c t ht, g_block m c t, w_block m c t]
  show _ = meanKey _ _ _ ⟨t.val * 2 + b.val, _⟩ d
  unfold meanKey
  refine congrArg (fun s => Ideal.div s _) (Finset.sum_congr rfl fun s _ => ?_)
  unfold proj
  have e : t.val * 512 + (b.val * 256 + s.val) = (t.val * 2 + b.val) * 256 + s.val := by omega
  simp only [e]

end Cert.QkvProof

end
-- ==== Proof.QkvRef.lean ====
module

public import proofs.«01_k».proof.Proof.QkvValue
public import Idealize.ShloMosaic.Lib.Pointwise

/-! The reference of the first layer's projections, read entry by entry. -/

@[expose] public section

set_option maxRecDepth 16384

noncomputable section

namespace Cert.QkvRefIdeal.Value

open Cert.QkvRefIdeal Cert.QkvRefIdeal.Gen Cert.QkvProof
open Idealize.ShloMosaic Idealize.ShloMosaic.TcCoe Idealize.SL.Sem

/-- The layer's input as rows. -/
abbrev rows (X : FVec Ideal S8x4096x1024 .f32) : FVec Ideal S32768x1024 .f32 := shapeCast S32768x1024 X shapeCasts_S8x4096x1024_S32768x1024

/-- The rows under RMS norm, as the reference computes them. -/
abbrev hn (X : FVec Ideal S8x4096x1024 .f32) (g : FVec Ideal S1x1024 .f32) : FVec Ideal S32768x1024 .f32 :=
  mulf (mulf (rows X) (broadcastInDim S32768x1024 ![0, 1] bcast_S32768x1_S32768x1024_0_1
      (Host.rsqrt (addf (Host.divf (broadcastInDim S32768x1 ![0] bcast_S32768_S32768x1_0
          (Host.reduceAdd (mulf (rows X) (rows X)) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1
      (broadcastInDim S1x1024 ![1] bcast_S1024_S1x1024_1 (shapeCast S1024 g shapeCasts_S1x1024_S1024)))

theorem hn_at (X : FVec Ideal S8x4096x1024 .f32) (g : FVec Ideal S1x1024 .f32) (r : Fin 32768) (k : Fin 1024) :
    (show EReal from hn X g (ix2 r k)) = normed (xrow X r.val r.isLt) (fun k => g (ix2 0 k)) k := by
  pointwise [hn]
  rfl

/-- The projections of an array of rows. -/
abbrev qkv (H : FVec Ideal S32768x1024 .f32) (W : FVec Ideal S1x1024x3072 .f32) : FVec Ideal S32768x3072 .f32 :=
  Host.dotGeneral dot_S32768x1024_S1024x3072_S32768x3072_1_0_0_1_n_n none H (shapeCast S1024x3072 W shapeCasts_S1x1024x3072_S1024x3072)

theorem qkv_at (H : FVec Ideal S32768x1024 .f32) (W : FVec Ideal S1x1024x3072 .f32) (r : Fin 32768) (d : Fin 3072) :
    (show EReal from qkv H W (ix2 r d)) = ∑ k : Fin 1024, H (ix2 r k) * W (ix3 0 k d) := by
  pointwise [qkv]

theorem proj_at (X : FVec Ideal S8x4096x1024 .f32) (g : FVec Ideal S1x1024 .f32) (W : FVec Ideal S1x1024x3072 .f32) (r : Fin 32768) (d : Fin 3072) :
    (show EReal from qkv (hn X g) W (ix2 r d)) = proj X g W r.val r.isLt d :=
  (qkv_at _ W r d).trans (Finset.sum_congr rfl fun k _ => congrArg (· * (W (ix3 0 k d) : EReal)) (hn_at X g r k))

/-- The mean of each block of 256 rows, over the middle third of the columns. -/
abbrev means (Q : FVec Ideal S32768x3072 .f32) : FVec Ideal S128x1x1024 .f32 :=
  Host.divf (broadcastInDim S128x1x1024 ![0, 2] bcast_S128x1024_S128x1x1024_0_2
      (Host.reduceAdd (shapeCast S128x256x1024 (extractStridedSlice S32768x1024 ![0, 1024] Q slices_S32768x3072_S32768x1024_0_1024) shapeCasts_S32768x1024_S128x256x1024)
        (constant S_ .f32 0x00000000#32) reducesTo_S128x256x1024_S128x1024_d1 h_S_))
    (broadcastInDim S128x1x1024 ![] bcast_S_S128x1x1024 (constant S_ .f32 0x43800000#32))

theorem means_at (Q : FVec Ideal S32768x3072 .f32) (b : Fin 128) (d : Fin 1024) :
    (show EReal from means Q (ix3 b 0 d))
      = Ideal.div (∑ s : Fin 256, Q (ix2 ⟨b.val * 256 + s.val, by omega⟩ ⟨1024 + d.val, by omega⟩)) (Ideal.ofBits FTy.f32 0x43800000#32) := by
  pointwise [means]

theorem mean_at (X : FVec Ideal S8x4096x1024 .f32) (g : FVec Ideal S1x1024 .f32) (W : FVec Ideal S1x1024x3072 .f32) (b : Fin 128) (d : Fin 1024) :
    (show EReal from means (qkv (hn X g) W) (ix3 b 0 d)) = meanKey X g W b d :=
  (means_at _ b d).trans (congrArg (fun s => Ideal.div s _) (Finset.sum_congr rfl fun s _ => proj_at X g W ⟨b.val * 256 + s.val, by omega⟩ ⟨1024 + d.val, by omega⟩))

end Cert.QkvRefIdeal.Value

end
-- ==== Proof.QkvClaims.lean ====
/- The certificate's conjuncts about the first layer's projections: the frames of the kernel (both readings of its text) and
   of its reference, and the equality of both results. -/
module

public import proofs.«01_k».proof.Defs
public import proofs.«01_k».proof.Proof.QkvRef
public import proofs.«01_k».proof.Proof.Gen.Qkv.Frame
public import proofs.«01_k».proof.Proof.Gen.QkvRefIdeal.Run
public import Idealize.ShloMosaic.Lib.Claim

@[expose] public section

set_option maxRecDepth 16384

noncomputable section

namespace Cert.QkvProof

open Idealize.ShloMosaic Idealize.ShloMosaic.TcCoe Idealize.SL.Sem

attribute [local instance] Cert.Qkv.Gen.facts Cert.QkvIdeal.Gen.facts Cert.QkvRefIdeal.Gen.facts

theorem frame_ideal : Cert.quiescent_QkvIdeal := fun m g _ => Cert.QkvIdeal.Gen.frame m g

theorem frame_bits : Cert.quiescent_Qkv := fun m g _ => Cert.Qkv.Gen.frame m g

theorem frame_ref : Cert.quiescent_QkvRefIdeal := fun m g _ =>
  (θ_run Cert.QkvRefIdeal.defs _ _).mono (fun r h => ⟨fun c => (h c).2.2, sem_eq_zero_of_no_sems (by decide) r.2⟩)
    (Cert.QkvRefIdeal.Value.run (F := Ideal) m g)

/-- The reference's two results on the kernel's arguments. -/
theorem ref_qkv (m : (ℓ : Loc Cert.QkvIdeal.nD Cert.QkvIdeal.τ Cert.QkvIdeal.sig) → Buf (Elt Ideal) ℓ) (c : Dev Cert.QkvIdeal.nD) :
    truncf .bf16 (Cert.QkvRefIdeal.Value.qkv (Cert.QkvRefIdeal.Value.hn (m ((c.tc : Thread Cert.QkvIdeal.nD Cert.QkvIdeal.τ).loc Cert.QkvIdeal.main_arg0)) (m ((c.tc : Thread Cert.QkvIdeal.nD Cert.QkvIdeal.τ).loc Cert.QkvIdeal.main_arg1))) (m ((c.tc : Thread Cert.QkvIdeal.nD Cert.QkvIdeal.τ).loc Cert.QkvIdeal.main_arg2)))
      Cert.QkvRefIdeal.Gen.bitsLt_bf16_f32 = G3 m c := by
  refine funext fun i => ?_
  obtain ⟨r, d, rfl⟩ : ∃ (r : Fin 32768) (d : Fin 3072), i = (ix2 r d : Cert.QkvIdeal.S32768x3072.Idx) := ⟨i (0 : Fin 2), i (1 : Fin 2), eq_ix2 _⟩
  exact Cert.QkvRefIdeal.Value.proj_at _ _ _ r d

theorem ref_mean (m : (ℓ : Loc Cert.QkvIdeal.nD Cert.QkvIdeal.τ Cert.QkvIdeal.sig) → Buf (Elt Ideal) ℓ) (c : Dev Cert.QkvIdeal.nD) :
    Cert.QkvRefIdeal.Value.means (Cert.QkvRefIdeal.Value.qkv (Cert.QkvRefIdeal.Value.hn (m ((c.tc : Thread Cert.QkvIdeal.nD Cert.QkvIdeal.τ).loc Cert.QkvIdeal.main_arg0)) (m ((c.tc : Thread Cert.QkvIdeal.nD Cert.QkvIdeal.τ).loc Cert.QkvIdeal.main_arg1))) (m ((c.tc : Thread Cert.QkvIdeal.nD Cert.QkvIdeal.τ).loc Cert.QkvIdeal.main_arg2)))
      = G4 m c := by
  refine funext fun i => ?_
  obtain ⟨b, d, rfl⟩ : ∃ (b : Fin 128) (d : Fin 1024), i = (ix3 b 0 d : Cert.QkvIdeal.S128x1x1024.Idx) := ⟨i (0 : Fin 3), i (2 : Fin 3), by
    rw [eq_ix3 i]; exact congrArg (fun q => ix3 _ q _) (Subsingleton.elim (α := Fin 1) _ _)⟩
  exact Cert.QkvRefIdeal.Value.mean_at _ _ _ b d

theorem algebraic : Cert.algebraic_QkvIdeal_QkvRefIdeal := fun m g m' g' _ hagree =>
  ⟨fun c => G3 m c, fun c => G4 m c,
    θ_run_mono (θ_run_and (Cert.QkvIdeal.Gen.run_main m g) (Cert.QkvIdeal.Gen.unchanged m g))
      fun _ h c => ⟨((h.1 c).1 3).trans (final3 m c), ((h.1 c).1 4).trans (final4 m c), h.2 c⟩,
    θ_run_mono (Cert.QkvRefIdeal.Value.run (F := Ideal) m' g')
      fun _ h c => by
        obtain ⟨a0, a1, a2⟩ := hagree c
        refine ⟨(h c).1.trans ?_, (h c).2.1.trans ?_, (h c).2.2⟩
        · rw [a0, a1, a2]
          exact ref_qkv m c
        · rw [a0, a1, a2]
          exact ref_mean m c⟩

end Cert.QkvProof

end
-- ==== Proof.OutValue.lean ====
module

public import proofs.«01_k».proof.Proof.QkvValue
public import proofs.«01_k».proof.Proof.Gen.OutIdeal.Frame
public import Idealize.ShloMosaic.Lib.Pipeline.ValueKit
public import Idealize.ShloMosaic.Lib.Pipeline.Covers
public import Idealize.ShloMosaic.Lib.Pointwise
public import Idealize.ShloMosaic.Lib.Claim

/-! The projection after an attention: what the kernel leaves in its residual and in its normed result, entry by entry, over the arguments. -/

@[expose] public section

set_option maxRecDepth 16384

noncomputable section

namespace Cert.OutProof

open Cert.OutIdeal Cert.OutIdeal.Gen
open Idealize.ShloMosaic Idealize.ShloMosaic.TcCoe Idealize.SL.Sem
open Cert.QkvProof (normed)

/-- An entry of the new residual: the old one plus the attention's row times a column of the weights. -/
def resid (a h : Fin 1024 → EReal) (W : Fin 1024 → Fin 1024 → EReal) (d : Fin 1024) : EReal :=
  h d + ∑ k : Fin 1024, a k * W k d

theorem pay8_at (h : FVec Ideal S512x1024 .f32) (a : FVec Ideal S512x1024 .bf16) (w : FVec Ideal S1024x1024 .bf16) (r : Fin 512) (d : Fin 1024) :
    (show EReal from k0_pay8 (F := Ideal) h a w (ix2 r d)) = resid (fun k => a (ix2 r k)) (fun k => h (ix2 r k)) (fun k d => w (ix2 k d)) d := by
  pointwise [k0_pay8]
  rfl

/-- RMS norm of any rows, as the body takes it. -/
abbrev rms (x : FVec Ideal S512x1024 .f32) (g : FVec Ideal S1x1024 .f32) : FVec Ideal S512x1024 .f32 :=
  mulf (mulf x (broadcastTo S512x1024 (rsqrt (addf (divf (shapeCast S512x1 (multiReduction (φ := .f32) .add [1] S512 (mulf x x) 0x00000000#32 reduces_S512x1024_S512 (.inl rfl) rfl) shapeCasts_S512_S512x1)
      (broadcast S512x1 (Scalar.ofBits (F := Ideal) .f32 0x44800000#32))) (broadcast S512x1 (Scalar.ofBits (F := Ideal) .f32 0x358637BD#32)))) broadcasts_S512x1_S512x1024))
    (broadcastTo S512x1024 (shapeCast S1x1024 g shapeCasts_S1x1024_S1x1024) broadcasts_S1x1024_S512x1024)

theorem rms_at (x : FVec Ideal S512x1024 .f32) (g : FVec Ideal S1x1024 .f32) (r : Fin 512) (d : Fin 1024) :
    (show EReal from rms x g (ix2 r d)) = normed (fun k => x (ix2 r k)) (fun k => g (ix2 0 k)) d := by
  pointwise [rms]
  rfl

theorem pay9_at (h : FVec Ideal S512x1024 .f32) (a : FVec Ideal S512x1024 .bf16) (w : FVec Ideal S1024x1024 .bf16) (g : FVec Ideal S1x1024 .f32) (r : Fin 512) (d : Fin 1024) :
    (show EReal from k0_pay9 (F := Ideal) h a w g (ix2 r d))
      = normed (resid (fun k => a (ix2 r k)) (fun k => h (ix2 r k)) (fun k d => w (ix2 k d))) (fun k => g (ix2 0 k)) d :=
  (rms_at (k0_pay8 (F := Ideal) h a w) g r d).trans (congrArg (fun x => normed x (fun k => (g (ix2 0 k) : EReal)) d) (funext fun k => pay8_at h a w r k))

variable (m : (ℓ : Loc nD τ sig) → Buf (Elt Ideal) ℓ)

/-- At every point, whichever way the body branches, the same two blocks are stored. -/
theorem outs8 (c : Dev nD) (t : Fin cfg0.N) :
    (outsAt0 m c t.val t.isLt).1 = k0_pay8 (F := Ideal) (iblk m c 1 t) (iblk m c 0 t) (iblk m c 2 t) := by
  have ht : t.val < 65 := t.isLt
  by_cases h0 : t.val % 65 = 0
  · rw [outsAt0_A m c t h0 (by omega) (by omega)]
    frame_out
  · by_cases h1 : t.val % 2 = 0
    · rw [outsAt0_C m c t h0 h1 (by omega)]
      frame_out
    · rw [outsAt0_B m c t h0 h1 (by omega)]
      frame_out
      rfl

theorem outs9 (c : Dev nD) (t : Fin cfg0.N) :
    (outsAt0 m c t.val t.isLt).2.1 = k0_pay9 (F := Ideal) (iblk m c 1 t) (iblk m c 0 t) (iblk m c 2 t) (iblk m c 3 t) := by
  have ht : t.val < 65 := t.isLt
  by_cases h0 : t.val % 65 = 0
  · rw [outsAt0_A m c t h0 (by omega) (by omega)]
    frame_out
  · by_cases h1 : t.val % 2 = 0
    · rw [outsAt0_C m c t h0 h1 (by omega)]
      frame_out
    · rw [outsAt0_B m c t h0 h1 (by omega)]
      frame_out
      rfl

theorem a_block (c : Dev nD) (t : Fin cfg0.N) (q : ℕ) (hq : q < 64) (e : q = min t.val 63) (r : Fin 512) (k : Fin 1024) :
    (iblk m c 0 t : FVec Ideal S512x1024 .bf16) (ix2 r k) = (m ((c.tc : Thread nD τ).loc main_arg0) : FVec Ideal S32768x1024 .bf16) (ix2 ⟨q * 512 + r.val, by omega⟩ k) := by
  have hix : win0_0.index t = ![q, 0] := e ▸ (by decide +kernel : ∀ t : Fin grid0.N, win0_0.index t = ![min t.val 63, 0]) t
  have e : (iblk m c 0 t : FVec Ideal S512x1024 .bf16) (ix2 r k) = (V m c main_arg0 : FVec Ideal S32768x1024 .bf16) (ix2 ⟨q * 512 + r.val, by omega⟩ k) := by
    blk_ext [iblk, hix]
  exact e.trans (congrFun (V_main_arg0 m c) _)

theorem h_block (c : Dev nD) (t : Fin cfg0.N) (q : ℕ) (hq : q < 64) (e : q = min t.val 63) (r : Fin 512) (k : Fin 1024) :
    (iblk m c 1 t : FVec Ideal S512x1024 .f32) (ix2 r k) = (m ((c.tc : Thread nD τ).loc main_arg1) : FVec Ideal S32768x1024 .f32) (ix2 ⟨q * 512 + r.val, by omega⟩ k) := by
  have hix : win0_1.index t = ![q, 0] := e ▸ (by decide +kernel : ∀ t : Fin grid0.N, win0_1.index t = ![min t.val 63, 0]) t
  have e : (iblk m c 1 t : FVec Ideal S512x1024 .f32) (ix2 r k) = (V m c main_arg1 : FVec Ideal S32768x1024 .f32) (ix2 ⟨q * 512 + r.val, by omega⟩ k) := by
    blk_ext [iblk, hix]
  exact e.trans (congrFun (V_main_arg1 m c) _)

theorem w_block (c : Dev nD) (t : Fin cfg0.N) (k d : Fin 1024) :
    (iblk m c 2 t : FVec Ideal S1024x1024 .bf16) (ix2 k d) = (m ((c.tc : Thread nD τ).loc main_arg2) : FVec Ideal S1024x1024 .f32) (ix2 k d) := by
  have hix : win0_2.index t = ![0, 0] := (by decide +kernel : ∀ t : Fin grid0.N, win0_2.index t = ![0, 0]) t
  have e : (iblk m c 2 t : FVec Ideal S1024x1024 .bf16) (ix2 k d) = (V m c main_v0 : FVec Ideal S1024x1024 .bf16) (ix2 k d) := by
    blk_ext [iblk, hix]
  rw [e]
  simp only [V, hostOps0, hostOps0_1, hostOps0_2, hostOps0_3, hostOps0_4, hostOps0_5, hostOps0_6, List.flatten_cons, List.flatten_nil, List.append_nil,
    List.cons_append, List.nil_append]
  entry_read
  pointwise

theorem g_block (c : Dev nD) (t : Fin cfg0.N) (k : Fin 1024) :
    (iblk m c 3 t : FVec Ideal S1x1024 .f32) (ix2 0 k) = (m ((c.tc : Thread nD τ).loc main_arg3) : FVec Ideal S1024 .f32) (ix1 k) := by
  have hix : win0_3.index t = ![0, 0] := (by decide +kernel : ∀ t : Fin grid0.N, win0_3.index t = ![0, 0]) t
  have e : (iblk m c 3 t : FVec Ideal S1x1024 .f32) (ix2 0 k) = (V m c main_v19 : FVec Ideal S1x1024 .f32) (ix2 0 k) := by
    blk_ext [iblk, hix]
  rw [e]
  simp only [V, hostOps0, hostOps0_1, hostOps0_2, hostOps0_3, hostOps0_4, hostOps0_5, hostOps0_6, List.flatten_cons, List.flatten_nil, List.append_nil,
    List.cons_append, List.nil_append]
  entry_read
  pointwise

/-- Row `r` of the new residual, over the arguments. -/
def hrow (A : FVec Ideal S32768x1024 .bf16) (H : FVec Ideal S32768x1024 .f32) (W : FVec Ideal S1024x1024 .f32) (r : Fin 32768) (d : Fin 1024) : EReal :=
  resid (fun k => A (ix2 r k)) (fun k => H (ix2 r k)) (fun k d => W (ix2 k d)) d

/-- What the first result is to hold. -/
def G8 (c : Dev nD) : FVec Ideal S32768x1024 .f32 := fun i =>
  hrow (m ((c.tc : Thread nD τ).loc main_arg0)) (m ((c.tc : Thread nD τ).loc main_arg1)) (m ((c.tc : Thread nD τ).loc main_arg2)) (i 0) (i 1)
/-- What the second result is to hold. -/
def G9 (c : Dev nD) : FVec Ideal S32768x1024 .f32 := fun i =>
  normed (hrow (m ((c.tc : Thread nD τ).loc main_arg0)) (m ((c.tc : Thread nD τ).loc main_arg1)) (m ((c.tc : Thread nD τ).loc main_arg2)) (i 0))
    (fun k => (m ((c.tc : Thread nD τ).loc main_arg3) : FVec Ideal S1024 .f32) (ix1 k)) (i 1)

theorem final8 (c : Dev nD) : (dats m 0 c).arrAt 8 (cfgs 0).N = G8 m c := by
  refine (dats m 0 c).arrAt_eq_of_covers 8 _ (by decide +kernel) fun t _ y => ?_
  blk_simp
  rw [after0_8, outs8]
  obtain ⟨q, hq, e⟩ : ∃ q, q < 64 ∧ q = min t.val 63 := ⟨min t.val 63, by omega, rfl⟩
  have hix : win0_8.index t = ![q, 0] := e ▸ (by decide +kernel : ∀ t : Fin grid0.N, win0_8.index t = ![min t.val 63, 0]) t
  obtain ⟨r, d, rfl⟩ : ∃ (r : Fin 512) (d : Fin 1024), y = (ix2 r d : S512x1024.Idx) := ⟨y (0 : Fin 2), y (1 : Fin 2), eq_ix2 _⟩
  have he : (((cfg0.win 8).blk t).view.emb (ix2 r d : S512x1024.Idx) : S32768x1024.Idx) = ix2 ⟨q * 512 + r.val, by omega⟩ d := by
    blk_ext [hix]
  refine (pay8_at (iblk m c 1 t) (iblk m c 0 t) (iblk m c 2 t) r d).trans (Eq.trans ?_ (congrArg (G8 m c) he).symm)
  simp only [a_block m c t q hq e, h_block m c t q hq e, w_block m c t]
  rfl

theorem final9 (c : Dev nD) : (dats m 0 c).arrAt 9 (cfgs 0).N = G9 m c := by
  refine (dats m 0 c).arrAt_eq_of_covers 9 _ (by decide +kernel) fun t _ y => ?_
  blk_simp
  rw [after0_9, outs9]
  obtain ⟨q, hq, e⟩ : ∃ q, q < 64 ∧ q = min t.val 63 := ⟨min t.val 63, by omega, rfl⟩
  have hix : win0_9.index t = ![q, 0] := e ▸ (by decide +kernel : ∀ t : Fin grid0.N, win0_9.index t = ![min t.val 63, 0]) t
  obtain ⟨r, d, rfl⟩ : ∃ (r : Fin 512) (d : Fin 1024), y = (ix2 r d : S512x1024.Idx) := ⟨y (0 : Fin 2), y (1 : Fin 2), eq_ix2 _⟩
  have he : (((cfg0.win 9).blk t).view.emb (ix2 r d : S512x1024.Idx) : S32768x1024.Idx) = ix2 ⟨q * 512 + r.val, by omega⟩ d := by
    blk_ext [hix]
  refine (pay9_at (iblk m c 1 t) (iblk m c 0 t) (iblk m c 2 t) (iblk m c 3 t) r d).trans (Eq.trans ?_ (congrArg (G9 m c) he).symm)
  simp only [a_block m c t q hq e, h_block m c t q hq e, w_block m c t, g_block m c t]
  rfl

end Cert.OutProof

end
-- ==== Proof.OutRef.lean ====
module

public import proofs.«01_k».proof.Proof.OutValue
public import proofs.«01_k».proof.Proof.Gen.OutRefIdeal.Run
public import Idealize.ShloMosaic.Lib.Pointwise

/-! The reference of the projection after an attention, read entry by entry. -/

@[expose] public section

set_option maxRecDepth 16384

noncomputable section

namespace Cert.OutRefIdeal.Value

open Cert.OutRefIdeal Cert.OutRefIdeal.Gen Cert.OutProof
open Idealize.ShloMosaic Idealize.ShloMosaic.TcCoe Idealize.SL.Sem

/-- The residual plus the attention's rows times the weights. -/
abbrev sum (A : FVec Ideal S32768x1024 .bf16) (H : FVec Ideal S32768x1024 .f32) (W : FVec Ideal S1024x1024 .f32) : FVec Ideal S32768x1024 .f32 :=
  addf H (Host.dotGeneral dot_S32768x1024_S1024x1024_S32768x1024_1_0_0_1_n_n none (extf .f32 A bitsLt_bf16_f32) W)

theorem sum_at (A : FVec Ideal S32768x1024 .bf16) (H : FVec Ideal S32768x1024 .f32) (W : FVec Ideal S1024x1024 .f32) (r : Fin 32768) (d : Fin 1024) :
    (show EReal from sum A H W (ix2 r d)) = hrow A H W r d := by
  pointwise [sum]
  rfl

/-- Any rows under RMS norm, as the reference computes them. -/
abbrev norm (x : FVec Ideal S32768x1024 .f32) (g : FVec Ideal S1024 .f32) : FVec Ideal S32768x1024 .f32 :=
  mulf (mulf x (broadcastInDim S32768x1024 ![0, 1] bcast_S32768x1_S32768x1024_0_1
      (Host.rsqrt (addf (Host.divf (broadcastInDim S32768x1 ![0] bcast_S32768_S32768x1_0
          (Host.reduceAdd (mulf x x) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

theorem norm_at (x : FVec Ideal S32768x1024 .f32) (g : FVec Ideal S1024 .f32) (r : Fin 32768) (k : Fin 1024) :
    (show EReal from norm x g (ix2 r k)) = Cert.QkvProof.normed (fun k => x (ix2 r k)) (fun k => g (ix1 k)) k := by
  pointwise [norm]
  rfl

theorem norm_sum_at (A : FVec Ideal S32768x1024 .bf16) (H : FVec Ideal S32768x1024 .f32) (W : FVec Ideal S1024x1024 .f32) (g : FVec Ideal S1024 .f32) (r : Fin 32768) (d : Fin 1024) :
    (show EReal from norm (sum A H W) g (ix2 r d)) = Cert.QkvProof.normed (hrow A H W r) (fun k => g (ix1 k)) d :=
  (norm_at _ g r d).trans (congrArg (fun x => Cert.QkvProof.normed x (fun k => (g (ix1 k) : EReal)) d) (funext fun k => sum_at A H W r k))

end Cert.OutRefIdeal.Value

end
-- ==== Proof.OutClaims.lean ====
/- The certificate's conjuncts about the projection after an attention: the frames of the kernel (both readings of its text)
   and of its reference, and the equality of both results. -/
module

public import proofs.«01_k».proof.Defs
public import proofs.«01_k».proof.Proof.OutRef
public import proofs.«01_k».proof.Proof.Gen.Out.Frame
public import proofs.«01_k».proof.Proof.Gen.OutRefIdeal.Run
public import Idealize.ShloMosaic.Lib.Claim

@[expose] public section

set_option maxRecDepth 16384

noncomputable section

namespace Cert.OutProof

open Idealize.ShloMosaic Idealize.ShloMosaic.TcCoe Idealize.SL.Sem

attribute [local instance] Cert.Out.Gen.facts Cert.OutIdeal.Gen.facts Cert.OutRefIdeal.Gen.facts

theorem frame_ideal : Cert.quiescent_OutIdeal := fun m g _ => Cert.OutIdeal.Gen.frame m g

theorem frame_bits : Cert.quiescent_Out := fun m g _ => Cert.Out.Gen.frame m g

theorem frame_ref : Cert.quiescent_OutRefIdeal := fun m g _ =>
  (θ_run Cert.OutRefIdeal.defs _ _).mono (fun r h => ⟨fun c => (h c).2.2, sem_eq_zero_of_no_sems (by decide) r.2⟩)
    (Cert.OutRefIdeal.Value.run (F := Ideal) m g)

/-- The reference's two results on the kernel's arguments. -/
theorem ref_resid (m : (ℓ : Loc Cert.OutIdeal.nD Cert.OutIdeal.τ Cert.OutIdeal.sig) → Buf (Elt Ideal) ℓ) (c : Dev Cert.OutIdeal.nD) :
    Cert.OutRefIdeal.Value.sum (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2))
      = G8 m c := by
  refine funext fun i => ?_
  obtain ⟨r, d, rfl⟩ : ∃ (r : Fin 32768) (d : Fin 1024), i = (ix2 r d : Cert.OutIdeal.S32768x1024.Idx) := ⟨i (0 : Fin 2), i (1 : Fin 2), eq_ix2 _⟩
  exact Cert.OutRefIdeal.Value.sum_at _ _ _ r d

theorem ref_norm (m : (ℓ : Loc Cert.OutIdeal.nD Cert.OutIdeal.τ Cert.OutIdeal.sig) → Buf (Elt Ideal) ℓ) (c : Dev Cert.OutIdeal.nD) :
    Cert.OutRefIdeal.Value.norm (Cert.OutRefIdeal.Value.sum (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)))
      (m ((c.tc : Thread Cert.OutIdeal.nD Cert.OutIdeal.τ).loc Cert.OutIdeal.main_arg3)) = G9 m c := by
  refine funext fun i => ?_
  obtain ⟨r, d, rfl⟩ : ∃ (r : Fin 32768) (d : Fin 1024), i = (ix2 r d : Cert.OutIdeal.S32768x1024.Idx) := ⟨i (0 : Fin 2), i (1 : Fin 2), eq_ix2 _⟩
  exact Cert.OutRefIdeal.Value.norm_sum_at _ _ _ _ r d

theorem algebraic : Cert.algebraic_OutIdeal_OutRefIdeal := fun m g m' g' _ hagree =>
  ⟨fun c => G8 m c, fun c => G9 m c,
    θ_run_mono (θ_run_and (Cert.OutIdeal.Gen.run_main m g) (Cert.OutIdeal.Gen.unchanged m g))
      fun _ h c => ⟨((h.1 c).1 8).trans (final8 m c), ((h.1 c).1 9).trans (final9 m c), h.2 c⟩,
    θ_run_mono (Cert.OutRefIdeal.Value.run (F := Ideal) m' g')
      fun _ h c => by
        obtain ⟨a0, a1, a2, a3, a4, a5, a6, a7⟩ := hagree c
        refine ⟨(h c).1.trans ?_, (h c).2.1.trans ?_, (h c).2.2⟩
        · rw [a0, a1, a2]
          exact ref_resid m c
        · rw [a0, a1, a2, a3]
          exact ref_norm m c⟩

end Cert.OutProof

end
-- ==== Proof.RouteRows.lean ====
module

public import Idealize.ShloMosaic.PureOps.Ideal

/-! Routing of one row: the 128 lanes the kernel looks at choose what four groups and thirty-two experts choose. -/

@[expose] public section

noncomputable section

namespace Cert.RouteProof

open Idealize.ShloMosaic

/-- A lane's number, as a value. -/
abbrev num {n : ℕ} (x : Fin n) : EReal := ((x.val : ℝ) : EReal)

/-- The largest of some scores. -/
def top {n : ℕ} (s : Fin n → EReal) : EReal := Finset.univ.fold max ⊥ s
/-- The first place the largest stands at. -/
def first {n : ℕ} (s : Fin n → EReal) (none : EReal) : EReal := Finset.univ.fold min ⊤ fun x => if s x = top s then num x else none

theorem le_top {n : ℕ} (s : Fin n → EReal) (x : Fin n) : s x ≤ top s :=
  Finset.le_sup (f := s) (Finset.mem_univ x)

theorem top_le {n : ℕ} (s : Fin n → EReal) (b : EReal) (h : ∀ x, s x ≤ b) : top s ≤ b :=
  Finset.sup_le fun x _ => h x

theorem exists_top {n : ℕ} (s : Fin (n + 1) → EReal) : ∃ x, s x = top s := by
  obtain ⟨x, _, h⟩ := Finset.exists_mem_eq_sup (Finset.univ : Finset (Fin (n + 1))) Finset.univ_nonempty s
  exact ⟨x, h.symm⟩

theorem num_le {n k : ℕ} (x : Fin n) (y : Fin k) (h : x.val ≤ y.val) : num x ≤ num y :=
  EReal.coe_le_coe_iff.2 (Nat.cast_le.2 h)

theorem num_eq {n k : ℕ} (x : Fin n) (y : Fin k) : num x = num y ↔ x.val = y.val := by
  rw [EReal.coe_eq_coe_iff, Nat.cast_inj]

theorem first_eq {n : ℕ} (s : Fin n → EReal) (none : EReal) (x : Fin n) (h : s x = top s) (hx : ∀ y, s y = top s → x ≤ y) (hn : num x ≤ none) :
    first s none = num x := by
  refine le_antisymm ?_ ?_
  · have e := Finset.inf_le (f := fun x => if s x = top s then num x else none) (Finset.mem_univ x)
    rw [if_pos h] at e
    exact e
  · refine Finset.le_inf (f := fun x => if s x = top s then num x else none) fun y _ => ?_
    by_cases hy : s y = top s
    · rw [if_pos hy]
      exact num_le _ _ (hx y hy)
    · rw [if_neg hy]
      exact hn

theorem exists_first {n : ℕ} (s : Fin (n + 1) → EReal) : ∃ x, s x = top s ∧ ∀ y, s y = top s → x ≤ y := by
  classical
  have ne : (Finset.univ.filter fun x => s x = top s).Nonempty := by
    obtain ⟨x, h⟩ := exists_top s
    exact ⟨x, Finset.mem_filter.2 ⟨Finset.mem_univ x, h⟩⟩
  exact ⟨_, (Finset.mem_filter.1 (Finset.min'_mem _ ne)).2, fun y hy => Finset.min'_le _ y (Finset.mem_filter.2 ⟨Finset.mem_univ y, hy⟩)⟩

theorem num_le_real {n : ℕ} (x : Fin n) (k : ℕ) (h : n ≤ k) : num x ≤ ((k : ℝ) : EReal) :=
  EReal.coe_le_coe_iff.2 (Nat.cast_le.2 (x.isLt.le.trans h))

theorem lane_lo (x : Fin 32) : x.val < 128 := by omega
theorem lane_hi (x : Fin 32) : x.val + 64 < 128 := by omega
theorem group_of (x : Fin 32) : x.val / 8 < 4 := by omega

/-- Thirty-two scores in 128 lanes, the others dead. -/
def pad (s : Fin 32 → EReal) (l : Fin 128) : EReal := if h : l.val < 32 then s ⟨l.val, h⟩ else ⊥

theorem pad_of (s : Fin 32 → EReal) (x : Fin 32) : pad s ⟨x.val, by omega⟩ = s x := dif_pos x.isLt

theorem top_pad (s : Fin 32 → EReal) : top (pad s) = top s := by
  refine le_antisymm (top_le _ _ fun l => ?_) (top_le _ _ fun x => ?_)
  · unfold pad
    split
    · exact le_top s _
    · exact bot_le
  · rw [← pad_of s x]
    exact le_top (pad s) _

theorem first_pad (s : Fin 32 → EReal) : first (pad s) ((128 : ℕ) : ℝ) = first s ((32 : ℕ) : ℝ) := by
  obtain ⟨x, h, hx⟩ := exists_first s
  rw [first_eq s _ x h hx (num_le_real x 32 le_rfl),
    first_eq (pad s) _ ⟨x.val, by omega⟩ ((pad_of s x).trans (h.trans (top_pad s).symm)) ?_ (num_le_real _ 128 le_rfl)]
  intro l hl
  by_cases h32 : l.val < 32
  · have e : pad s l = s ⟨l.val, h32⟩ := dif_pos h32
    exact hx ⟨l.val, h32⟩ (e.symm.trans (hl.trans (top_pad s)))
  · exact Fin.le_def.2 (by have := x.isLt; show x.val ≤ l.val; omega)

/-- Four group scores, each standing at the eight experts of its group. -/
def wide (G : Fin 4 → EReal) (x : Fin 32) : EReal := G ⟨x.val / 8, by omega⟩

theorem wide_of (G : Fin 4 → EReal) (g : Fin 4) : wide G ⟨8 * g.val, by omega⟩ = G g :=
  congrArg G (Fin.ext (by show 8 * g.val / 8 = g.val; omega))

theorem top_wide (G : Fin 4 → EReal) : top (wide G) = top G := by
  refine le_antisymm (top_le _ _ fun x => le_top G _) (top_le _ _ fun g => ?_)
  rw [← wide_of G g]
  exact le_top (wide G) _

theorem first_wide (G : Fin 4 → EReal) : ∃ g : Fin 4, first G ((4 : ℕ) : ℝ) = num g ∧ first (wide G) ((32 : ℕ) : ℝ) = (((8 * g.val : ℕ) : ℝ) : EReal) := by
  obtain ⟨g, h, hg⟩ := exists_first G
  refine ⟨g, first_eq G _ g h hg (num_le_real g 4 le_rfl), first_eq (wide G) _ ⟨8 * g.val, by omega⟩ ((wide_of G g).trans (h.trans (top_wide G).symm)) ?_ (num_le_real _ 32 le_rfl)⟩
  intro y hy
  have e := Fin.le_def.1 (hg _ (hy.trans (top_wide G)))
  have e : g.val ≤ y.val / 8 := e
  exact Fin.le_def.2 (by show 8 * g.val ≤ y.val; omega)

/-- The group a lane's number is in, by the eighth of it rounded down. -/
theorem eighth (k : ℕ) : Ideal.liftRound Int.floor (((k : ℝ) : EReal) * (((1 : ℝ) / 8 : ℝ) : EReal)) = (((k / 8 : ℕ) : ℝ) : EReal) := by
  rw [← EReal.coe_mul, Ideal.liftRound_coe, EReal.coe_eq_coe_iff]
  have e : ⌊(k : ℝ) * (1 / 8)⌋ = ((k / 8 : ℕ) : ℤ) := by
    have h : (k : ℝ) = 8 * ((k / 8 : ℕ) : ℝ) + ((k % 8 : ℕ) : ℝ) := by exact_mod_cast (Nat.div_add_mod k 8).symm
    have h0 : (0 : ℝ) ≤ ((k % 8 : ℕ) : ℝ) := Nat.cast_nonneg _
    have h8 : ((k % 8 : ℕ) : ℝ) < 8 := by exact_mod_cast Nat.mod_lt k (by norm_num)
    refine Int.floor_eq_iff.2 ⟨?_, ?_⟩
    · rw [Int.cast_natCast]
      linarith
    · rw [Int.cast_natCast]
      linarith
  rw [e, Int.cast_natCast]

/-! The kernel's row, over its 128 lanes. -/

section Kernel
variable (L : Fin 128 → EReal)

def kscore (l : Fin 128) : EReal := if l.val < 32 then L l else ⊥
def kgate : EReal := Ideal.div 1 (Ideal.div (∑ l : Fin 128, Ideal.exp (kscore L l - top (kscore L))) ((8 : ℝ) : EReal))
def kgroup : EReal := first (kscore L) ((128 : ℕ) : ℝ)
def kexp (l : Fin 128) : EReal :=
  if Ideal.liftRound Int.floor (num l * (((1 : ℝ) / 8 : ℝ) : EReal)) = Ideal.liftRound Int.floor (kgroup L * (((1 : ℝ) / 8 : ℝ) : EReal)) ∧ l.val < 32
    then L ⟨(l.val + 128 - 64) % 128, by omega⟩ else ⊥
def kone : EReal := first (kexp L) ((128 : ℕ) : ℝ)
def krest (l : Fin 128) : EReal := if num l = kone L then ⊥ else kexp L l
def ktwo : EReal := first (krest L) ((128 : ℕ) : ℝ)
def kratio : EReal := Ideal.exp (top (krest L) - top (kexp L))
def kw1 : EReal := kgate L * Ideal.div 1 (1 + kratio L)
def kw2 : EReal := kgate L * Ideal.div (kratio L) (1 + kratio L)

end Kernel

/-! The reference's row, over four groups and thirty-two experts. -/

section Reference
variable (G : Fin 4 → EReal) (E : Fin 32 → EReal)

def rgate : EReal := Ideal.div (Ideal.exp (top G - top G)) (∑ g : Fin 4, Ideal.exp (G g - top G))
def rexp (x : Fin 32) : EReal := if (((x.val / 8 : ℕ) : ℝ) : EReal) = first G ((4 : ℕ) : ℝ) then E x else ⊥
def rone : EReal := first (rexp G E) ((32 : ℕ) : ℝ)
def rrest (x : Fin 32) : EReal := if num x = rone G E then ⊥ else rexp G E x
def rtwo : EReal := first (rrest G E) ((32 : ℕ) : ℝ)
def rsum : EReal := ∑ x : Fin 32, Ideal.exp (rexp G E x - top (rexp G E))
def rv1 : EReal := Ideal.div (Ideal.exp (top (rexp G E) - top (rexp G E))) (rsum G E)
def rv2 : EReal := Ideal.div (Ideal.exp (top (rrest G E) - top (rexp G E))) (rsum G E)
def rw1 : EReal := rgate G * Ideal.div (rv1 G E) (rv1 G E + rv2 G E)
def rw2 : EReal := rgate G * Ideal.div (rv2 G E) (rv1 G E + rv2 G E)

end Reference

section Same
variable (L : Fin 128 → EReal) (G : Fin 4 → EReal) (E : Fin 32 → EReal)
  (hG : ∀ x : Fin 32, L ⟨x.val, lane_lo x⟩ = G ⟨x.val / 8, group_of x⟩) (hE : ∀ x : Fin 32, L ⟨x.val + 64, lane_hi x⟩ = E x)

include hG in
theorem kscore_eq : kscore L = pad (wide G) := by
  funext l
  unfold kscore pad
  by_cases h : l.val < 32
  · rw [if_pos h, dif_pos h]
    exact hG ⟨l.val, h⟩
  · rw [if_neg h, dif_neg h]

include hG hE in
theorem kexp_eq : kexp L = pad (rexp G E) := by
  obtain ⟨g, h4, h32⟩ := first_wide G
  have hk : kgroup L = (((8 * g.val : ℕ) : ℝ) : EReal) := by
    rw [kgroup, kscore_eq L G hG, first_pad, h32]
  funext l
  unfold kexp pad rexp
  rw [hk, h4, eighth, eighth, show 8 * g.val / 8 = g.val by omega]
  by_cases h : l.val < 32
  · rw [dif_pos h]
    by_cases hg : (((l.val / 8 : ℕ) : ℝ) : EReal) = num g
    · rw [if_pos hg, if_pos ⟨hg, h⟩, ← hE ⟨l.val, h⟩]
      exact congrArg L (Fin.ext (by show (l.val + 128 - 64) % 128 = l.val + 64; omega))
    · rw [if_neg hg, if_neg fun e => hg e.1]
  · rw [dif_neg h, if_neg fun e => h e.2]

include hG hE in
theorem kone_eq : kone L = rone G E := by
  rw [kone, kexp_eq L G E hG hE, first_pad, rone]

include hG hE in
theorem krest_eq : krest L = pad (rrest G E) := by
  funext l
  unfold krest
  rw [kone_eq L G E hG hE, kexp_eq L G E hG hE]
  unfold pad rrest
  by_cases h : l.val < 32
  · rw [dif_pos h, dif_pos h]
  · rw [dif_neg h, dif_neg h, ite_self]

include hG hE in
theorem ktwo_eq : ktwo L = rtwo G E := by
  rw [ktwo, krest_eq L G E hG hE, first_pad, rtwo]

theorem sum_wide (f : EReal → EReal) (hf : f ⊥ = 0) : ∑ l : Fin 128, f (pad (wide G) l) = ((8 : ℝ) : EReal) * ∑ g : Fin 4, f (G g) := by
  have e : ∀ (q : Fin 16) (j : Fin 8), f (pad (wide G) (finProdFinEquiv (q, j))) = if h : q.val < 4 then f (G ⟨q.val, h⟩) else 0 := by
    intro q j
    have hv : (finProdFinEquiv (q, j)).val = j.val + 8 * q.val := rfl
    unfold pad
    by_cases h : q.val < 4
    · rw [dif_pos h, dif_pos (show (finProdFinEquiv (q, j)).val < 32 by omega)]
      exact congrArg (fun g => f (G g)) (Fin.ext (by show (finProdFinEquiv (q, j)).val / 8 = q.val; omega))
    · rw [dif_neg h, dif_neg (show ¬ (finProdFinEquiv (q, j)).val < 32 by omega), hf]
  rw [← (finProdFinEquiv (m := 16) (n := 8)).sum_comp fun l => f (pad (wide G) l), Fintype.sum_prod_type]
  simp only [e, Finset.sum_const, Finset.card_univ, Fintype.card_fin]
  rw [← Finset.smul_sum]
  have h4 : ∑ q : Fin 16, (if h : q.val < 4 then f (G ⟨q.val, h⟩) else 0) = ∑ g : Fin 4, f (G g) := by
    rw [Fin.sum_univ_add (a := 4) (b := 12) (f := fun q : Fin 16 => if h : q.val < 4 then f (G ⟨q.val, h⟩) else 0),
      Finset.sum_eq_zero (s := (Finset.univ : Finset (Fin 12))) fun i _ => dif_neg (by show ¬ 4 + i.val < 4; omega), add_zero]
    exact Finset.sum_congr rfl fun g _ => dif_pos g.isLt
  rw [h4, EReal.nsmul_eq_mul]
  rfl

theorem coe_sum {n : ℕ} (t : Fin n → ℝ) : ((∑ x, t x : ℝ) : EReal) = ∑ x, (t x : EReal) := by
  induction n with
  | zero => simp
  | succ n ih => rw [Fin.sum_univ_castSucc, Fin.sum_univ_castSucc, EReal.coe_add, ih]

theorem coe_div (x y : ℝ) (hy : y ≠ 0) : Ideal.div (x : EReal) (y : EReal) = ((x / y : ℝ) : EReal) := by
  rw [Ideal.div_coe hy, ← EReal.coe_mul, mul_one_div]

end Same

/-- A score that is a real number. -/
def IsReal (x : EReal) : Prop := ∃ r : ℝ, x = (r : EReal)

theorem top_real {n : ℕ} (s : Fin (n + 1) → EReal) (h : ∀ x, IsReal (s x)) : IsReal (top s) := by
  obtain ⟨x, e⟩ := exists_top s
  exact e ▸ h x

section Weights
variable (L : Fin 128 → EReal) (G : Fin 4 → EReal) (E : Fin 32 → EReal)
  (hG : ∀ x : Fin 32, L ⟨x.val, lane_lo x⟩ = G ⟨x.val / 8, group_of x⟩) (hE : ∀ x : Fin 32, L ⟨x.val + 64, lane_hi x⟩ = E x)
  (fG : ∀ g, IsReal (G g)) (fE : ∀ x, IsReal (E x))

include hG fG in
theorem kgate_eq : kgate L = rgate G := by
  obtain ⟨m, hm⟩ := top_real G fG
  have hs := sum_wide G (fun x => Ideal.exp (x - top G)) (by rw [EReal.bot_sub]; rfl)
  rw [kgate, kscore_eq L G hG, top_pad, top_wide]
  rw [show (∑ l : Fin 128, Ideal.exp (pad (wide G) l - top G)) = _ from hs, rgate, Ideal.div_coe (by norm_num : (8 : ℝ) ≠ 0),
    mul_comm ((8 : ℝ) : EReal), mul_assoc, ← EReal.coe_mul, show (8 : ℝ) * (1 / 8) = 1 by norm_num, EReal.coe_one, mul_one, hm, ← EReal.coe_sub, sub_self,
    Ideal.exp_coe, Real.exp_zero, EReal.coe_one]

include fE in
theorem rexp_real : IsReal (top (rexp G E)) := by
  obtain ⟨g, h4, h32⟩ := first_wide G
  have e : rexp G E ⟨8 * g.val, by omega⟩ = E ⟨8 * g.val, by omega⟩ := by
    unfold rexp
    rw [h4, if_pos]
    exact congrArg (fun n : ℕ => ((n : ℝ) : EReal)) (by show 8 * g.val / 8 = g.val; omega)
  obtain ⟨r, hr⟩ := fE ⟨8 * g.val, by omega⟩
  have hle := le_top (rexp G E) ⟨8 * g.val, by omega⟩
  rw [e, hr] at hle
  obtain ⟨x, hx⟩ := exists_top (rexp G E)
  by_cases hg : (((x.val / 8 : ℕ) : ℝ) : EReal) = first G ((4 : ℕ) : ℝ)
  · rw [← hx, rexp, if_pos hg]
    exact fE x
  · rw [← hx, rexp, if_neg hg] at hle
    exact absurd (le_bot_iff.1 hle) (EReal.coe_ne_bot r)

include fE in
/-- The weight of a score under the largest is a real number. -/
theorem exp_real (x : EReal) (h : x ≤ top (rexp G E)) : ∃ t : ℝ, 0 ≤ t ∧ Ideal.exp (x - top (rexp G E)) = (t : EReal) := by
  obtain ⟨m, hm⟩ := rexp_real G E fE
  rw [hm] at h ⊢
  induction x using EReal.rec with
  | bot => exact ⟨0, le_rfl, by rw [EReal.bot_sub]; rfl⟩
  | coe r => exact ⟨Real.exp (r - m), (Real.exp_pos _).le, by rw [← EReal.coe_sub, Ideal.exp_coe]⟩
  | top => exact absurd (top_le_iff.1 h) (EReal.coe_ne_top m)

include fE in
theorem rsum_real : ∃ s : ℝ, 0 < s ∧ rsum G E = (s : EReal) := by
  choose t ht e using fun x => exp_real G E fE (rexp G E x) (le_top _ x)
  refine ⟨∑ x, t x, ?_, ?_⟩
  · obtain ⟨x, hx⟩ := exists_top (rexp G E)
    refine Finset.sum_pos' (fun x _ => ht x) ⟨x, Finset.mem_univ x, ?_⟩
    obtain ⟨m, hm⟩ := rexp_real G E fE
    have := e x
    rw [hx, hm, ← EReal.coe_sub, sub_self, Ideal.exp_coe, Real.exp_zero, EReal.coe_eq_coe_iff] at this
    linarith
  · rw [rsum, coe_sum]
    exact Finset.sum_congr rfl fun x _ => e x

include fE in
theorem ratios : ∃ t s : ℝ, 0 ≤ t ∧ 0 < s ∧ Ideal.exp (top (rrest G E) - top (rexp G E)) = (t : EReal) ∧ rv1 G E = ((1 / s : ℝ) : EReal) ∧ rv2 G E = ((t / s : ℝ) : EReal) := by
  obtain ⟨t, ht, e⟩ := exp_real G E fE (top (rrest G E)) (top_le _ _ fun x => by
    unfold rrest
    split
    · exact bot_le
    · exact le_top _ x)
  obtain ⟨s, hs, es⟩ := rsum_real G E fE
  obtain ⟨m, hm⟩ := rexp_real G E fE
  refine ⟨t, s, ht, hs, e, ?_, ?_⟩
  · rw [rv1, es, hm, ← EReal.coe_sub, sub_self, Ideal.exp_coe, Real.exp_zero, coe_div _ _ hs.ne']
  · rw [rv2, es, e, coe_div _ _ hs.ne']

include hG hE fG fE in
theorem kw1_eq : kw1 L = rw1 G E := by
  obtain ⟨t, s, ht, hs, e, e1, e2⟩ := ratios G E fE
  rw [kw1, rw1, kgate_eq L G hG fG, kratio, krest_eq L G E hG hE, kexp_eq L G E hG hE, top_pad, top_pad, e, e1, e2, ← EReal.coe_add, ← EReal.coe_one, ← EReal.coe_add,
    coe_div _ _ (by positivity), coe_div _ _ (by positivity)]
  congr 2
  field_simp

include hG hE fG fE in
theorem kw2_eq : kw2 L = rw2 G E := by
  obtain ⟨t, s, ht, hs, e, e1, e2⟩ := ratios G E fE
  rw [kw2, rw2, kgate_eq L G hG fG, kratio, krest_eq L G E hG hE, kexp_eq L G E hG hE, top_pad, top_pad, e, e1, e2, ← EReal.coe_add, ← EReal.coe_one, ← EReal.coe_add,
    coe_div _ _ (by positivity), coe_div _ _ (by positivity)]
  congr 2
  field_simp

end Weights

end Cert.RouteProof
-- ==== Proof.RouteState.lean ====
module

public import proofs.«01_k».proof.Proof.OutValue
public import proofs.«01_k».proof.Proof.RouteRows
public import proofs.«01_k».proof.Proof.Gen.RouteIdeal.Frame
public import Idealize.ShloMosaic.Lib.Pipeline.ValueKit
public import Idealize.ShloMosaic.Lib.Pipeline.Covers
public import Idealize.ShloMosaic.Lib.WritesUnit
public import Idealize.ShloMosaic.Lib.Pointwise
public import Idealize.ShloMosaic.Lib.Claim

/-! The routing the kernel writes at a point: that of the logits the point before left in its half of the scratch. -/

@[expose] public section

set_option maxRecDepth 16384

noncomputable section

namespace Cert.RouteProof

open Cert.RouteIdeal Cert.RouteIdeal.Gen
open Idealize.ShloMosaic Idealize.ShloMosaic.TcCoe Idealize.SL.Sem

/-- What a point's body stores of the routing, from the logits it reads. -/
abbrev routed (x : FVec Ideal S1x512x128 .f32) (a b : FVec Ideal S512x1 .f32) : FVec Ideal S512x128 .f32 :=
  k0_pay4 (iota Kind.tc S512x128 32 [1] iota_S512x128_d1_w32) a b
    (k0_pay41 (iota Kind.tc S512x128 32 [1] iota_S512x128_d1_w32)
      (k0_pay27 k0_pay17 (k0_pay19 x) k0_pay22 k0_pay23 (k0_pay24 x) (FloatOps.ofBits FTy.f32 0x3E000000#32))
      (k0_pay30 k0_pay17 (k0_pay19 x) k0_pay22 k0_pay23 (k0_pay24 x) (FloatOps.ofBits FTy.f32 0x3E000000#32))
      (k0_pay32 k0_pay17 (k0_pay19 x) (k0_pay21 x) k0_pay22 k0_pay23 (k0_pay24 x) (FloatOps.ofBits FTy.f32 0x3E000000#32)))
    (k0_pay42 (iota Kind.tc S512x128 32 [1] iota_S512x128_d1_w32))
    (k0_pay43 (k0_pay33 k0_pay17 (k0_pay19 x) (k0_pay21 x) k0_pay22 k0_pay23 (k0_pay24 x) (FloatOps.ofBits FTy.f32 0x3E000000#32)))

/-- The logits of a block of rows, as the body leaves them. -/
abbrev scored (h : FVec Ideal S512x1024 .f32) (a : FVec Ideal S512x1024 .bf16) (w : FVec Ideal S1024x1024 .bf16) (g : FVec Ideal S1x1024 .f32)
    (wh wl : FVec Ideal S1024x128 .bf16) (b : FVec Ideal S1x128 .f32) : FVec Ideal S1x512x128 .f32 :=
  k0_pay15 (k0_pay11 h a w g) (k0_pay12 h a w g wh) (k0_pay13 h a w g wl) (k0_pay14 wh) b

variable (m : (ℓ : Loc nD τ sig) → Buf (Elt Ideal) ℓ)

/-- The scratch of logits after a point. -/
def kept (c : Dev nD) (n : ℕ) (hn : n < cfg0.N) : FVec Ideal S2x512x128 .f32 := (outsAt0 m c n hn).2.2.2.2.2

/-- A half of the scratch. -/
abbrev half (off : Fin 3 → ℕ) (inb : ∀ a : Fin S2x512x128.rank, off a + (![1, 512, 128] : Fin 3 → ℕ) a ≤ S2x512x128.size a) : Rect S2x512x128 := Rect.unit (s := S2x512x128) off ![1, 512, 128] inb

theorem emb_half (p : Fin 2) (off : Fin 3 → ℕ) (hoff : off = ![p.val, 0, 0]) (inb) (r : Fin 512) (l : Fin 128) :
    (half off inb).emb (ix3 (0 : Fin 1) r l) = (ix3 p r l : S2x512x128.Idx) := by
  subst hoff
  refine funext fun a => Fin.ext ?_
  match a with
  | 0 => exact Nat.add_zero p.val
  | 1 => show 0 + 1 * r.val = r.val; omega
  | 2 => show 0 + 1 * l.val = l.val; omega

/-- Half `p` of the scratch. -/
def halfOf (X : FVec Ideal S2x512x128 .f32) (p : Fin 2) : FVec Ideal S1x512x128 .f32 := fun y => X (ix3 p (y 1) (y 2))

theorem load_half (X : FVec Ideal S2x512x128 .f32) (p : Fin 2) (off : Fin 3 → ℕ) (hoff : off = ![p.val, 0, 0]) (inb) :
    (View.ld (Val := Elt Ideal) (e' := .f32) X (half off inb) : FVec Ideal S1x512x128 .f32) = halfOf X p := by
  funext y
  obtain ⟨z, r, l, rfl⟩ : ∃ (z : Fin 1) (r : Fin 512) (l : Fin 128), y = (ix3 z r l : S1x512x128.Idx) := ⟨y (0 : Fin 3), y (1 : Fin 3), y (2 : Fin 3), eq_ix3 _⟩
  obtain rfl : z = 0 := Subsingleton.elim _ _
  exact congrArg X (emb_half p off hoff inb r l)

theorem kept_eq (c : Dev nD) (t : Fin cfg0.N) (p : Fin 2) (hp : p.val = t.val % 2) (r : Fin 512) (l : Fin 128) :
    kept m c t.val t.isLt (ix3 p r l)
      = scored (iblk m c 1 t) (iblk m c 0 t) (iblk m c 2 t) (iblk m c 3 t) (iblk m c 4 t) (iblk m c 5 t) (iblk m c 6 t) (ix3 0 r l) := by
  unfold kept
  have ht : t.val < 65 := t.isLt
  by_cases h0 : t.val % 65 = 0
  · obtain rfl : p = 0 := Fin.ext (by show p.val = 0; omega)
    rw [outsAt0_A m c t h0 (by omega) (by omega)]
    frame_out
    rw [← emb_half 0 ![0, 0, 0] rfl inb_S2x512x128_S1x512x128_0_0_0 r l, View.canon_cons_emb]
  · by_cases h1 : t.val % 2 = 0
    · obtain rfl : p = 0 := Fin.ext (by show p.val = 0; omega)
      rw [outsAt0_C m c t h0 h1 (by omega)]
      frame_out
      rw [← emb_half 0 ![0, 0, 0] rfl inb_S2x512x128_S1x512x128_0_0_0 r l, View.read_writes_cons_emb]
    · obtain rfl : p = 1 := Fin.ext (by show p.val = 1; omega)
      rw [outsAt0_B m c t h0 h1 (by omega)]
      frame_out
      rw [← emb_half 1 ![1, 0, 0] rfl inb_S2x512x128_S1x512x128_1_0_0 r l, View.read_writes_cons_emb]
      rfl

theorem route_C (c : Dev nD) (t : Fin cfg0.N) (h0 : ¬ t.val % 65 = 0) (h1 : t.val % 2 = 0) :
    ∃ a b, ((outsAt0 m c t.val t.isLt).2.2.1 : FVec Ideal S512x128 .f32)
      = routed (halfOf (kept m c (t.val - 1) (Nat.lt_of_le_of_lt (Nat.sub_le _ _) t.isLt)) 1) a b := by
  unfold kept
  have e := (Memref.isWhole_whole cc0_scratch1).read_unread (Val := Elt Ideal) (outsAt0 m c (t.val - 1) (Nat.lt_of_le_of_lt (Nat.sub_le _ _) t.isLt)).2.2.2.2.2
  rw [outsAt0_C m c t h0 h1 (by omega)]
  frame_out
  dsimp only [Memref.whole] at e
  rw [e, load_half _ 1 ![1, 0, 0] rfl]
  generalize halfOf (outsAt0 m c (t.val - 1) _).2.2.2.2.2 1 = X
  exact ⟨_, _, rfl⟩

theorem route_B (c : Dev nD) (t : Fin cfg0.N) (h0 : ¬ t.val % 65 = 0) (h1 : ¬ t.val % 2 = 0) :
    ∃ a b, ((outsAt0 m c t.val t.isLt).2.2.1 : FVec Ideal S512x128 .f32)
      = routed (halfOf (kept m c (t.val - 1) (Nat.lt_of_le_of_lt (Nat.sub_le _ _) t.isLt)) 0) a b := by
  unfold kept
  have e := (Memref.isWhole_whole cc0_scratch1).read_unread (Val := Elt Ideal) (outsAt0 m c (t.val - 1) (Nat.lt_of_le_of_lt (Nat.sub_le _ _) t.isLt)).2.2.2.2.2
  rw [outsAt0_B m c t h0 h1 (by omega)]
  frame_out
  dsimp only [Memref.whole] at e
  rw [e, load_half _ 0 ![0, 0, 0] rfl]
  generalize halfOf (outsAt0 m c (t.val - 1) _).2.2.2.2.2 0 = X
  exact ⟨_, _, rfl⟩

theorem route_at (c : Dev nD) (t u : Fin cfg0.N) (hu : u.val + 1 = t.val) :
    ∃ a b, ((outsAt0 m c t.val t.isLt).2.2.1 : FVec Ideal S512x128 .f32)
      = routed (scored (iblk m c 1 u) (iblk m c 0 u) (iblk m c 2 u) (iblk m c 3 u) (iblk m c 4 u) (iblk m c 5 u) (iblk m c 6 u)) a b := by
  have ht : t.val < 65 := t.isLt
  have h0 : ¬ t.val % 65 = 0 := by omega
  have key : ∀ p : Fin 2, p.val = u.val % 2 → halfOf (kept m c (t.val - 1) (Nat.lt_of_le_of_lt (Nat.sub_le _ _) t.isLt)) p
      = scored (iblk m c 1 u) (iblk m c 0 u) (iblk m c 2 u) (iblk m c 3 u) (iblk m c 4 u) (iblk m c 5 u) (iblk m c 6 u) := by
    intro p hp
    have hk : ∀ (n : ℕ) (hn : n < cfg0.N), n = u.val → kept m c n hn = kept m c u.val u.isLt := by
      rintro n hn rfl
      rfl
    funext y
    obtain ⟨z, r, l, rfl⟩ : ∃ (z : Fin 1) (r : Fin 512) (l : Fin 128), y = (ix3 z r l : S1x512x128.Idx) := ⟨y (0 : Fin 3), y (1 : Fin 3), y (2 : Fin 3), eq_ix3 _⟩
    obtain rfl : z = 0 := Subsingleton.elim _ _
    rw [hk (t.val - 1) _ (by omega)]
    exact kept_eq m c u p hp r l
  by_cases h1 : t.val % 2 = 0
  · obtain ⟨a, b, e⟩ := route_C m c t h0 h1
    exact ⟨a, b, e.trans (congrArg (fun x => routed x a b) (key 1 (by show 1 = u.val % 2; omega)))⟩
  · obtain ⟨a, b, e⟩ := route_B m c t h0 h1
    exact ⟨a, b, e.trans (congrArg (fun x => routed x a b) (key 0 (by show 0 = u.val % 2; omega)))⟩

end Cert.RouteProof
-- ==== Proof.RouteLanes.lean ====
module

public import proofs.«01_k».proof.Proof.RouteState

/-! The first four words of a row of the routing: two experts and their weights, over the row's 128 logits. -/

@[expose] public section

set_option maxRecDepth 16384

noncomputable section

namespace Cert.RouteProof

open Cert.RouteIdeal Cert.RouteIdeal.Gen
open Idealize.ShloMosaic Idealize.ShloMosaic.TcCoe Idealize.SL.Sem

theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]
theorem bits_one : Ideal.ofBits .f32 0x3F800000#32 = (1 : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_eighth : Ideal.ofBits .f32 0x3E000000#32 = (((1 : ℝ) / 8 : ℝ) : EReal) := by
  simp [Ideal.ofBits, Ideal.ieee, -EReal.coe_mul]; norm_num
theorem bits_128 : Ideal.ofBits .f32 0x43000000#32 = (((128 : ℕ) : ℝ) : EReal) := by
  simp [Ideal.ofBits, Ideal.ieee, -EReal.coe_mul]; norm_num
theorem bits_32 : Ideal.ofBits .f32 0x42000000#32 = (((32 : ℕ) : ℝ) : EReal) := by
  simp [Ideal.ofBits, Ideal.ieee, -EReal.coe_mul]; norm_num
theorem bits_4 : Ideal.ofBits .f32 0x40800000#32 = (((4 : ℕ) : ℝ) : EReal) := by
  simp [Ideal.ofBits, Ideal.ieee, -EReal.coe_mul]; norm_num

theorem lane_num {n : ℕ} (x : Fin n) (h : n ≤ 128) : (FloatOps.sitofp (F := Ideal) FTy.f32 (BitVec.ofNat 32 x.val) : EReal) = num x := by
  have hx := x.isLt
  show (((BitVec.ofNat 32 x.val).toInt : ℝ) : EReal) = ((x.val : ℝ) : EReal)
  rw [BitVec.toInt_ofNat', Int.bmod_eq_of_le (by omega) (by omega)]
  simp

theorem lane_lt (x : Fin 128) : IntOp.cmpi CmpIPredicate.slt (BitVec.ofNat 32 x.val) 32#32 = BitVec.ofBool (decide (x.val < 32)) := by
  revert x
  decide +kernel

theorem select_of (p : Prop) [Decidable p] (x y : EReal) : Scalar.select (BitVec.ofBool (decide p)) x y = if p then x else y := by
  by_cases h : p <;> simp [h, Scalar.select]

theorem and_of (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

theorem first_congr {n : ℕ} (s s' : Fin n → EReal) (M : EReal) (N : Fin n → EReal) (none : EReal) [∀ x, Decidable (s x = M)] (hs : s = s') (hM : M = top s') (hN : ∀ x, N x = num x) :
    (Finset.univ.fold min ⊤ fun x => if s x = M then N x else none) = first s' none := by
  subst hs
  unfold first
  refine congrArg (fun f => Finset.univ.fold min ⊤ f) (funext fun x => ?_)
  rw [hN]
  by_cases h : s x = M
  · rw [if_pos h, if_pos (h.trans hM)]
  · rw [if_neg h, if_neg fun e => h (e.trans hM.symm)]

theorem ite_congr' {a a' b b' : EReal} [Decidable (a = b)] (ha : a = a') (hb : b = b') (y : EReal) {z z' : EReal} (hz : z = z') :
    (if a = b then y else z) = if a' = b' then y else z' := by
  subst ha hb hz
  by_cases h : a = b
  · rw [if_pos h, if_pos h]
  · rw [if_neg h, if_neg h]

variable (x : FVec Ideal S1x512x128 .f32) (r : Fin 512)

/-- A row's logits. -/
abbrev row (l : Fin 128) : EReal := x (ix3 0 r l)

theorem pay18_at (l : Fin 128) : (show EReal from k0_pay18 (F := Ideal) x (ix2 r l)) = kscore (row x r) l := by
  pointwise [k0_pay18, k0_pay17, k0_pay16]
  rw [lane_lt, select_of, bits_bot]
  rfl

theorem pay20_at : (show EReal from k0_pay20 (F := Ideal) x (ix2 r 0)) = top (kscore (row x r)) := by
  pointwise [k0_pay20]
  rw [bits_bot]
  exact congrArg (fun f => Finset.univ.fold max ⊥ f) (funext fun l => pay18_at x r l)

theorem pay21_at : (show EReal from k0_pay21 (F := Ideal) x (ix2 r 0)) = kgate (row x r) := by
  pointwise [k0_pay21]
  rw [bits_eight]
  unfold kgate
  refine congrArg (fun z => Ideal.div 1 (Ideal.div z ((8 : ℝ) : EReal))) (Finset.sum_congr rfl fun l _ => ?_)
  exact congrArg₂ (fun y z : EReal => Ideal.exp (y - z)) (pay18_at x r l) (pay20_at x r)

theorem pay24_at : (show EReal from k0_pay24 (F := Ideal) x (ix2 r 0)) = kgroup (row x r) := by
  pointwise [k0_pay24, k0_pay22]
  rw [bits_top, bits_128]
  exact first_congr _ _ _ _ _ (funext fun l => pay18_at x r l) (pay20_at x r) fun l => lane_num l le_rfl

theorem pay22_at (l : Fin 128) : (show EReal from k0_pay22 (F := Ideal) (ix2 r l)) = num l := by
  pointwise [k0_pay22]
  exact lane_num l le_rfl

/-- The lanes of the top group. -/
abbrev pay25 : FVec Ideal S512x128 .f32 := k0_pay25 k0_pay17 (k0_pay19 x) k0_pay23 (k0_pay24 x) (FloatOps.ofBits FTy.f32 0x3E000000#32)
abbrev pay26 : FVec Ideal S512x1 .f32 := k0_pay26 k0_pay17 (k0_pay19 x) k0_pay23 (k0_pay24 x) (FloatOps.ofBits FTy.f32 0x3E000000#32)
abbrev pay27 : FVec Ideal S512x1 .f32 := k0_pay27 k0_pay17 (k0_pay19 x) k0_pay22 k0_pay23 (k0_pay24 x) (FloatOps.ofBits FTy.f32 0x3E000000#32)
abbrev pay28 : FVec Ideal S512x128 .f32 := k0_pay28 k0_pay17 (k0_pay19 x) k0_pay22 k0_pay23 (k0_pay24 x) (FloatOps.ofBits FTy.f32 0x3E000000#32)
abbrev pay29 : FVec Ideal S512x1 .f32 := k0_pay29 k0_pay17 (k0_pay19 x) k0_pay22 k0_pay23 (k0_pay24 x) (FloatOps.ofBits FTy.f32 0x3E000000#32)
abbrev pay30 : FVec Ideal S512x1 .f32 := k0_pay30 k0_pay17 (k0_pay19 x) k0_pay22 k0_pay23 (k0_pay24 x) (FloatOps.ofBits FTy.f32 0x3E000000#32)
abbrev pay31 : FVec Ideal S512x1 .f32 := k0_pay31 k0_pay17 (k0_pay19 x) k0_pay22 k0_pay23 (k0_pay24 x) (FloatOps.ofBits FTy.f32 0x3E000000#32)
abbrev pay32 : FVec Ideal S512x1 .f32 := k0_pay32 k0_pay17 (k0_pay19 x) (k0_pay21 x) k0_pay22 k0_pay23 (k0_pay24 x) (FloatOps.ofBits FTy.f32 0x3E000000#32)
abbrev pay33 : FVec Ideal S512x1 .f32 := k0_pay33 k0_pay17 (k0_pay19 x) (k0_pay21 x) k0_pay22 k0_pay23 (k0_pay24 x) (FloatOps.ofBits FTy.f32 0x3E000000#32)

theorem pay25_at (l : Fin 128) : (show EReal from pay25 x (ix2 r l)) = kexp (row x r) l := by
  pointwise [pay25, k0_pay25, k0_pay17, k0_pay19, k0_pay23, k0_pay22, k0_pay16]
  rw [lane_lt, bits_bot, bits_eighth, show IntOp.andi _ _ = _ from and_of _ _, select_of]
  unfold kexp
  rw [lane_num l le_rfl, show (k0_pay24 (F := Ideal) x (ix2 r 0) : EReal) = _ from pay24_at x r]

theorem pay26_at : (show EReal from pay26 x (ix2 r 0)) = top (kexp (row x r)) := by
  pointwise [pay26, k0_pay26]
  rw [bits_bot]
  exact congrArg (fun f => Finset.univ.fold max ⊥ f) (funext fun l => pay25_at x r l)
theorem pay27_at : (show EReal from pay27 x (ix2 r 0)) = kone (row x r) := by
  pointwise [pay27, k0_pay27]
  rw [bits_top, bits_128]
  exact first_congr _ _ _ _ _ (funext fun l => pay25_at x r l) (pay26_at x r) fun l => (pay22_at r l)
theorem pay28_at (l : Fin 128) : (show EReal from pay28 x (ix2 r l)) = krest (row x r) l := by
  pointwise [pay28, k0_pay28]
  rw [bits_bot]
  exact ite_congr' (pay22_at r l) (pay27_at x r) ⊥ (pay25_at x r l)
theorem pay29_at : (show EReal from pay29 x (ix2 r 0)) = top (krest (row x r)) := by
  pointwise [pay29, k0_pay29]
  rw [bits_bot]
  exact congrArg (fun f => Finset.univ.fold max ⊥ f) (funext fun l => pay28_at x r l)

theorem pay30_at : (show EReal from pay30 x (ix2 r 0)) = ktwo (row x r) := by
  pointwise [pay30, k0_pay30]
  rw [bits_top, bits_128]
  exact first_congr _ _ _ _ _ (funext fun l => pay28_at x r l) (pay29_at x r) fun l => (pay22_at r l)

theorem pay31_at : (show EReal from pay31 x (ix2 r 0)) = kratio (row x r) := by
  pointwise [pay31, k0_pay31]
  exact congrArg₂ (fun y z : EReal => Ideal.exp (y - z)) (pay29_at x r) (pay26_at x r)
theorem pay32_at : (show EReal from pay32 x (ix2 r 0)) = kw1 (row x r) := by
  pointwise [pay32, k0_pay32]
  exact congrArg₂ (fun y z : EReal => y * Ideal.div 1 (1 + z)) (pay21_at x r) (pay31_at x r)
theorem pay33_at : (show EReal from pay33 x (ix2 r 0)) = kw2 (row x r) := by
  pointwise [pay33, k0_pay33]
  exact congrArg₂ (fun y z : EReal => y * Ideal.div z (1 + z)) (pay21_at x r) (pay31_at x r)

theorem routed_0 (a b : FVec Ideal S512x1 .f32) : (show EReal from routed x a b (ix2 r 0)) = kone (row x r) := by
  pointwise [routed, k0_pay4, k0_pay41, k0_pay42, k0_pay43]
  exact pay27_at x r

theorem routed_1 (a b : FVec Ideal S512x1 .f32) : (show EReal from routed x a b (ix2 r 1)) = ktwo (row x r) := by
  pointwise [routed, k0_pay4, k0_pay41, k0_pay42, k0_pay43]
  exact pay30_at x r

theorem routed_2 (a b : FVec Ideal S512x1 .f32) : (show EReal from routed x a b (ix2 r 2)) = kw1 (row x r) := by
  pointwise [routed, k0_pay4, k0_pay41, k0_pay42, k0_pay43]
  exact pay32_at x r

theorem routed_3 (a b : FVec Ideal S512x1 .f32) : (show EReal from routed x a b (ix2 r 3)) = kw2 (row x r) := by
  pointwise [routed, k0_pay4, k0_pay41, k0_pay42, k0_pay43]
  exact pay33_at x r

end Cert.RouteProof
-- ==== Proof.RouteEntry.lean ====
module

public import proofs.«01_k».proof.Proof.RouteLanes

/-! The routers' weights and biases as the kernel's call takes them, over the arguments: the groups' in lanes 0 to 31, each eight times,
   the experts' in lanes 64 to 95. -/

@[expose] public section

set_option maxRecDepth 16384

noncomputable section

namespace Cert.RouteProof

open Cert.RouteIdeal Cert.RouteIdeal.Gen
open Idealize.ShloMosaic Idealize.ShloMosaic.TcCoe Idealize.ShloMosaic.StableHlo Idealize.SL.Sem

/-- The routers' weights side by side. -/
abbrev catw (x y z : FVec Ideal S1024x32 .f32) : FVec Ideal S1024x96 .f32 :=
  concatenate S1024x96 1 [⟨S1024x32, x⟩, ⟨S1024x32, y⟩, ⟨S1024x32, z⟩] concatenates_S1024x32_S1024x32_S1024x32_S1024x96_d1
/-- The routers' biases one after another. -/
abbrev catb (x y z : FVec Ideal S32 .f32) : FVec Ideal S96 .f32 :=
  concatenate S96 0 [⟨S32, x⟩, ⟨S32, y⟩, ⟨S32, z⟩] concatenates_S32_S32_S32_S96_d0

abbrev padw (x : FVec Ideal S1024x96 .f32) (v : FVec Ideal S_ .f32) : FVec Ideal S1024x128 .f32 :=
  Idealize.ShloMosaic.pad S1024x128 ![0, 0] ![0, 32] ![0, 0] x v pads_S1024x96_S1024x128_000_0320 h_S_
abbrev padb (x : FVec Ideal S96 .f32) (v : FVec Ideal S_ .f32) : FVec Ideal S128 .f32 :=
  Idealize.ShloMosaic.pad S128 ![0] ![32] ![0] x v pads_S96_S128_0320 h_S_

theorem catw_lo (x y z : FVec Ideal S1024x32 .f32) (v : FVec Ideal S_ .f32) (k : Fin 1024) (l : Fin 32) :
    (show EReal from padw (catw x y z) v (ix2 k ⟨l.val, by omega⟩)) = x (ix2 k l) := by
  pointwise [padw, catw]
  rw [dif_pos (by omega)]

theorem catw_hi (x y z : FVec Ideal S1024x32 .f32) (v : FVec Ideal S_ .f32) (k : Fin 1024) (l : Fin 32) :
    (show EReal from padw (catw x y z) v (ix2 k ⟨l.val + 64, by omega⟩)) = z (ix2 k l) := by
  pointwise [padw, catw]
  rw [dif_pos (by omega), dif_neg (by omega), dif_neg (by omega)]
  exact congrArg (fun q => z (ix2 k q)) (Fin.ext (by show l.val + 64 - 32 - 32 = l.val; omega))

theorem catb_lo (x y z : FVec Ideal S32 .f32) (v : FVec Ideal S_ .f32) (l : Fin 32) :
    (show EReal from padb (catb x y z) v (ix1 ⟨l.val, by omega⟩)) = x (ix1 l) := by
  pointwise [padb, catb]
  rw [dif_pos (by omega)]

theorem catb_hi (x y z : FVec Ideal S32 .f32) (v : FVec Ideal S_ .f32) (l : Fin 32) :
    (show EReal from padb (catb x y z) v (ix1 ⟨l.val + 64, by omega⟩)) = z (ix1 l) := by
  pointwise [padb, catb]
  rw [dif_pos (by omega), dif_neg (by omega), dif_neg (by omega)]
  exact congrArg (fun q => z (ix1 q)) (Fin.ext (by show l.val + 64 - 32 - 32 = l.val; omega))

theorem rep_w (x : FVec Ideal S1024x4 .f32) (k : Fin 1024) (l : Fin 32) :
    (show EReal from shapeCast S1024x32 (broadcastInDim S1024x4x8 ![0, 1] bcast_S1024x4_S1024x4x8_0_1 x) shapeCasts_S1024x4x8_S1024x32 (ix2 k l)) = x (ix2 k ⟨l.val / 8, by omega⟩) := by
  pointwise

theorem rep_b (x : FVec Ideal S4 .f32) (l : Fin 32) :
    (show EReal from shapeCast S32 (broadcastInDim S4x8 ![0] bcast_S4_S4x8_0 x) shapeCasts_S4x8_S32 (ix1 l)) = x (ix1 ⟨l.val / 8, by omega⟩) := by
  pointwise

theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem catw_congr {x x' y y' z z' : FVec Ideal S1024x32 .f32} (hx : x = x') (hy : y = y') (hz : z = z') : catw x y z = catw x' y' z' := by
  subst hx hy hz
  rfl
theorem catb_congr {x x' y y' z z' : FVec Ideal S32 .f32} (hx : x = x') (hy : y = y') (hz : z = z') : catb x y z = catb x' y' z' := by
  subst hx hy hz
  rfl

variable (W : Valuation τ sig (Elt Ideal))

theorem read_v4 : StableHlo.after hostOps0 W (Proc.devRef .tc main_v4)
    = catw (shapeCast S1024x32 (broadcastInDim S1024x4x8 ![0, 1] bcast_S1024x4_S1024x4x8_0_1 (W (Proc.devRef .tc main_arg4))) shapeCasts_S1024x4x8_S1024x32)
        (broadcastInDim S1024x32 ![] bcast_S_S1024x32 (constant S_ .f32 0x00000000#32)) (W (Proc.devRef .tc main_arg6)) := by
  have e : StableHlo.after hostOps0 W (Proc.devRef .tc main_v4)
      = catw (StableHlo.after (hostOps0.take 5) W (Proc.devRef .tc main_v2)) (StableHlo.after (hostOps0.take 5) W (Proc.devRef .tc main_v3))
          (StableHlo.after (hostOps0.take 5) W (Proc.devRef .tc main_arg6)) := by
    simp only [hostOps0, after_cons, after_nil]
    refine (StableHlo.nullary_result_ne (y := main_c) (r := main_v4) _ _ _ (by decide)).trans ?_
    refine (StableHlo.nary_result _ _ _ _ _ _).trans ?_
    rfl
  refine e.trans (catw_congr ?_ ?_ ?_)
  all_goals
    simp only [hostOps0, List.take]
    entry_read
    try rfl

theorem read_v9 : StableHlo.after hostOps0_2 W (Proc.devRef .tc main_v9)
    = catb (shapeCast S32 (broadcastInDim S4x8 ![0] bcast_S4_S4x8_0 (W (Proc.devRef .tc main_arg5))) shapeCasts_S4x8_S32)
        (broadcastInDim S32 ![] bcast_S_S32 (constant S_ .f32 0x00000000#32)) (W (Proc.devRef .tc main_arg7)) := by
  have e : StableHlo.after hostOps0_2 W (Proc.devRef .tc main_v9)
      = catb (StableHlo.after (hostOps0_2.take 4) W (Proc.devRef .tc main_v7)) (StableHlo.after (hostOps0_2.take 4) W (Proc.devRef .tc main_v8))
          (StableHlo.after (hostOps0_2.take 4) W (Proc.devRef .tc main_arg7)) := by
    simp only [hostOps0_2, after_cons, after_nil]
    refine (StableHlo.nullary_result_ne (y := main_c_1) (r := main_v9) _ _ _ (by decide)).trans ?_
    refine (StableHlo.nary_result _ _ _ _ _ _).trans ?_
    rfl
  refine e.trans (catb_congr ?_ ?_ ?_)
  all_goals
    simp only [hostOps0_2, List.take]
    entry_read
    try rfl

theorem read_v5 : StableHlo.after hostOps0_1 W (Proc.devRef .tc main_v5) = padw (W (Proc.devRef .tc main_v4)) (sitofp .f32 (W (Proc.devRef .tc main_c))) := by
  entry_read
  try rfl

theorem read_v10 : StableHlo.after hostOps0_3 W (Proc.devRef .tc main_v10) = padb (W (Proc.devRef .tc main_v9)) (sitofp .f32 (W (Proc.devRef .tc main_c_1))) := by
  entry_read
  try rfl

theorem read_v11 : StableHlo.after hostOps0_4 W (Proc.devRef .tc main_v11) = shapeCast S1x128 (W (Proc.devRef .tc main_v10)) shapeCasts_S128_S1x128 := by
  entry_read
  try rfl

theorem read_v12 : StableHlo.after hostOps0_4 W (Proc.devRef .tc main_v12) = truncf (F := Ideal) .bf16 (W (Proc.devRef .tc main_v5)) bitsLt_bf16_f32 := by
  entry_read
  try rfl

theorem read_v15 : StableHlo.after hostOps0_4 W (Proc.devRef .tc main_v15)
    = truncf (F := Ideal) .bf16 (subf (W (Proc.devRef .tc main_v5)) (extf .f32 (truncf (F := Ideal) .bf16 (W (Proc.devRef .tc main_v5)) bitsLt_bf16_f32) bitsLt_bf16_f32)) bitsLt_bf16_f32 := by
  entry_read
  try rfl

variable (m : (ℓ : Loc nD τ sig) → Buf (Elt Ideal) ℓ)

theorem split (c : Dev nD) (b : Ref sig .tc) : V m c b = StableHlo.after hostOps0_6 (StableHlo.after hostOps0_5 (StableHlo.after hostOps0_4 (StableHlo.after hostOps0_3
    (StableHlo.after hostOps0_2 (StableHlo.after hostOps0_1 (StableHlo.after hostOps0 (launchContents m c))))))) (Proc.devRef .tc b) := by
  simp only [V, V0, List.flatten_cons, List.flatten_nil, List.append_nil, after_two]

theorem keep_6 (b : Ref sig .tc) (h : b ≠ main_v18) (h' : b ≠ main_v19) : StableHlo.after hostOps0_6 W (Proc.devRef .tc b) = W (Proc.devRef .tc b) :=
  StableHlo.after_of_forall_not_mem _ _ (List.forall_iff_forall_mem.mp (by
    simp only [hostOps0_6, List.Forall, StableHlo.nullary_writes, StableHlo.unary_writes, StableHlo.binary_writes, StableHlo.reshape_writes, StableHlo.nary_writes, Finset.mem_singleton]
    repeat' apply And.intro
    all_goals exact StableHlo.devRef_ne_of_ne (by assumption)))

theorem keep_56 (b : Ref sig .tc) (hb : b = main_v11 ∨ b = main_v12 ∨ b = main_v15) :
    StableHlo.after hostOps0_6 (StableHlo.after hostOps0_5 W) (Proc.devRef .tc b) = W (Proc.devRef .tc b) := by
  rcases hb with rfl | rfl | rfl
  all_goals
    refine (keep_6 _ _ (by decide) (by decide)).trans ?_
    entry_read
    try rfl

/-- The weights as the kernel's call takes them. -/
abbrev wide_w (A : FVec Ideal S1024x4 .f32) (B : FVec Ideal S1024x32 .f32) (v : FVec Ideal S_ .f32) : FVec Ideal S1024x128 .f32 :=
  padw (catw (shapeCast S1024x32 (broadcastInDim S1024x4x8 ![0, 1] bcast_S1024x4_S1024x4x8_0_1 A) shapeCasts_S1024x4x8_S1024x32)
    (broadcastInDim S1024x32 ![] bcast_S_S1024x32 (constant S_ .f32 0x00000000#32)) B) v
/-- The biases as the kernel's call takes them. -/
abbrev wide_b (A : FVec Ideal S4 .f32) (B : FVec Ideal S32 .f32) (v : FVec Ideal S_ .f32) : FVec Ideal S128 .f32 :=
  padb (catb (shapeCast S32 (broadcastInDim S4x8 ![0] bcast_S4_S4x8_0 A) shapeCasts_S4x8_S32) (broadcastInDim S32 ![] bcast_S_S32 (constant S_ .f32 0x00000000#32)) B) v

/-- The contents the host line's fifth stretch starts from. -/
abbrev W4 (c : Dev nD) : Valuation τ sig (Elt Ideal) := StableHlo.after hostOps0_3 (StableHlo.after hostOps0_2 (StableHlo.after hostOps0_1 (StableHlo.after hostOps0 (launchContents m c))))

theorem stage_v5 (c : Dev nD) : ∃ v, W4 m c (Proc.devRef .tc main_v5) = wide_w (m ((c.tc : Thread nD τ).loc main_arg4)) (m ((c.tc : Thread nD τ).loc main_arg6)) v := by
  refine ⟨sitofp .f32 (StableHlo.after hostOps0 (launchContents m c) (Proc.devRef .tc main_c)),
    Eq.trans (b := StableHlo.after hostOps0_1 (StableHlo.after hostOps0 (launchContents m c)) (Proc.devRef .tc main_v5)) ?_ ?_⟩
  rotate_left
  · rw [read_v5, read_v4]
  · unfold W4
    generalize StableHlo.after hostOps0_1 (StableHlo.after hostOps0 (launchContents m c)) = W
    have e1 : StableHlo.after hostOps0_3 (StableHlo.after hostOps0_2 W) (Proc.devRef .tc main_v5) = StableHlo.after hostOps0_2 W (Proc.devRef .tc main_v5) := by
      generalize StableHlo.after hostOps0_2 W = W'
      entry_read
      try rfl
    exact e1.trans (StableHlo.after_of_forall_not_mem _ _ (List.forall_iff_forall_mem.mp (by
      simp only [hostOps0_2, List.Forall, StableHlo.nullary_writes, StableHlo.unary_writes, StableHlo.binary_writes, StableHlo.reshape_writes, StableHlo.nary_writes, Finset.mem_singleton]
      repeat' apply And.intro
      all_goals exact StableHlo.devRef_ne_of_ne (by decide))))

theorem keep_0 (b : Ref sig .tc) (hb : b = main_arg5 ∨ b = main_arg7) : StableHlo.after hostOps0 W (Proc.devRef .tc b) = W (Proc.devRef .tc b) := by
  rcases hb with rfl | rfl
  all_goals exact StableHlo.after_of_forall_not_mem _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem stage_v10 (c : Dev nD) : ∃ v, W4 m c (Proc.devRef .tc main_v10) = wide_b (m ((c.tc : Thread nD τ).loc main_arg5)) (m ((c.tc : Thread nD τ).loc main_arg7)) v := by
  have k5 : ∀ b : Ref sig .tc, b = main_arg5 ∨ b = main_arg7 →
      StableHlo.after hostOps0_1 (StableHlo.after hostOps0 (launchContents m c)) (Proc.devRef .tc b) = m ((c.tc : Thread nD τ).loc b) := by
    intro b hb
    have e1 : ∀ W : Valuation τ sig (Elt Ideal), StableHlo.after hostOps0_1 W (Proc.devRef .tc b) = W (Proc.devRef .tc b) := by
      intro W
      rcases hb with rfl | rfl
      all_goals
        entry_read
        try rfl
    refine (e1 _).trans ?_
    rcases hb with rfl | rfl
    · exact (keep_0 _ main_arg5 (.inl rfl)).trans rfl
    · exact (keep_0 _ main_arg7 (.inr rfl)).trans rfl
  refine ⟨sitofp .f32 (StableHlo.after hostOps0_2 (StableHlo.after hostOps0_1 (StableHlo.after hostOps0 (launchContents m c))) (Proc.devRef .tc main_c_1)), ?_⟩
  rw [W4, read_v10, read_v9, k5 _ (.inl rfl), k5 _ (.inr rfl)]

theorem entry_v12 (c : Dev nD) : ∃ v, ∀ k l, (show EReal from (V m c main_v12 : FVec Ideal S1024x128 .bf16) (ix2 k l))
    = wide_w (m ((c.tc : Thread nD τ).loc main_arg4)) (m ((c.tc : Thread nD τ).loc main_arg6)) v (ix2 k l)
    ∧ (show EReal from (V m c main_v15 : FVec Ideal S1024x128 .bf16) (ix2 k l))
    = (show EReal from wide_w (m ((c.tc : Thread nD τ).loc main_arg4)) (m ((c.tc : Thread nD τ).loc main_arg6)) v (ix2 k l))
      - wide_w (m ((c.tc : Thread nD τ).loc main_arg4)) (m ((c.tc : Thread nD τ).loc main_arg6)) v (ix2 k l) := by
  obtain ⟨v, e⟩ := stage_v5 m c
  dsimp only [W4] at e
  refine ⟨v, fun k l => ⟨?_, ?_⟩⟩
  · rw [split, keep_56 _ _ (.inr (.inl rfl)), read_v12, e]
    rfl
  · rw [split, keep_56 _ _ (.inr (.inr rfl)), read_v15, e]
    rfl

theorem entry_v11 (c : Dev nD) : ∃ v, ∀ l, (show EReal from (V m c main_v11 : FVec Ideal S1x128 .f32) (ix2 0 l))
    = wide_b (m ((c.tc : Thread nD τ).loc main_arg5)) (m ((c.tc : Thread nD τ).loc main_arg7)) v (ix1 l) := by
  obtain ⟨v, e⟩ := stage_v10 m c
  dsimp only [W4] at e
  refine ⟨v, fun l => ?_⟩
  rw [split, keep_56 _ _ (.inl rfl), read_v11, e]
  generalize wide_b (m ((c.tc : Thread nD τ).loc main_arg5)) (m ((c.tc : Thread nD τ).loc main_arg7)) v = x
  pointwise

end Cert.RouteProof

end
-- ==== Proof.RouteLogits.lean ====
module

public import proofs.«01_k».proof.Proof.RouteEntry

/-! The logits of the routing, over the arguments: the normed rows times the routers' weights. The low parts that the kernel keeps
   of rows and weights are zero wherever the arguments are finite. -/

@[expose] public section

set_option maxRecDepth 16384

noncomputable section

namespace Cert.RouteProof

open Cert.RouteIdeal Cert.RouteIdeal.Gen
open Idealize.ShloMosaic Idealize.ShloMosaic.TcCoe Idealize.SL.Sem
open Cert.QkvProof (normed)
open Cert.OutProof (resid hrow)

/-! Reals stay reals. -/

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {s : Fin n → EReal} (h : ∀ x, IsReal (s x)) : IsReal (∑ x, s x) := by
  choose t ht using h
  exact ⟨∑ x, t x, by rw [coe_sum]; exact Finset.sum_congr rfl fun x _ => ht x⟩

theorem IsReal.sub_self {x : EReal} (h : IsReal x) : x - x = 0 := by
  obtain ⟨a, rfl⟩ := h
  rw [← EReal.coe_sub, _root_.sub_self, EReal.coe_zero]

theorem bits_1024 : Ideal.ofBits .f32 0x44800000#32 = ((1024 : ℝ) : EReal) := by
  simp [Ideal.ofBits, Ideal.ieee, -EReal.coe_mul]; norm_num

theorem bits_eps : ∃ e : ℝ, 0 < e ∧ Ideal.ofBits .f32 0x358637BD#32 = (e : EReal) :=
  ⟨8796093 / 8796093022208, by norm_num, by simp [Ideal.ofBits, Ideal.ieee, -EReal.coe_mul]; norm_num⟩

/-- The root's argument is positive: a mean of squares plus a positive constant. -/
theorem normed_real {x g : Fin 1024 → EReal} (hx : ∀ k, IsReal (x k)) (hg : ∀ k, IsReal (g k)) (k : Fin 1024) : IsReal (normed x g k) := by
  choose t ht using hx
  obtain ⟨e, he, hb⟩ := bits_eps
  have hs : (∑ j, x j * x j) = ((∑ j, t j * t j : ℝ) : EReal) := by
    rw [coe_sum]
    exact Finset.sum_congr rfl fun j _ => by rw [ht j, ← EReal.coe_mul]
  have hp : 0 < (∑ j, t j * t j) / 1024 + e := add_pos_of_nonneg_of_pos (div_nonneg (Finset.sum_nonneg fun j _ => mul_self_nonneg _) (by norm_num)) he
  unfold normed
  rw [hs, bits_1024, hb, coe_div _ _ (by norm_num), ← EReal.coe_add, Ideal.rsqrt_coe, if_neg (not_lt.mpr hp.le), if_neg hp.ne']
  exact (IsReal.mul ⟨_, ht k⟩ ⟨_, rfl⟩).mul (hg k)

theorem resid_real {a h : Fin 1024 → EReal} {W : Fin 1024 → Fin 1024 → EReal} (ha : ∀ k, IsReal (a k)) (hh : ∀ k, IsReal (h k)) (hW : ∀ k d, IsReal (W k d))
    (d : Fin 1024) : IsReal (resid a h W d) :=
  (hh d).add (IsReal.sum fun k => (ha k).mul (hW k d))

/-- The products with the low parts vanish. -/
theorem low_parts (n w : Fin 1024 → EReal) (b : EReal) (hn : ∀ k, IsReal (n k)) (hw : ∀ k, IsReal (w k)) :
    (∑ k, n k * w k) + ((∑ k, n k * (w k - w k)) + ∑ k, (n k - n k) * w k) + b = (∑ k, n k * w k) + b := by
  simp only [(hn _).sub_self, (hw _).sub_self, mul_zero, zero_mul, Finset.sum_const_zero, add_zero]

/-- A row of the residual, from the blocks of a point. -/
abbrev brow (h : FVec Ideal S512x1024 .f32) (a : FVec Ideal S512x1024 .bf16) (w : FVec Ideal S1024x1024 .bf16) (g : FVec Ideal S1x1024 .f32) (r : Fin 512) (k : Fin 1024) : EReal :=
  normed (resid (fun k => a (ix2 r k)) (fun k => h (ix2 r k)) (fun k d => w (ix2 k d))) (fun k => g (ix2 0 k)) k

theorem pay9_at (h : FVec Ideal S512x1024 .f32) (a : FVec Ideal S512x1024 .bf16) (w : FVec Ideal S1024x1024 .bf16) (g : FVec Ideal S1x1024 .f32) (r : Fin 512) (k : Fin 1024) :
    (show EReal from k0_pay9 (F := Ideal) h a w g (ix2 r k)) = brow h a w g r k :=
  Cert.OutProof.pay9_at h a w g r k

theorem scored_at (h : FVec Ideal S512x1024 .f32) (a : FVec Ideal S512x1024 .bf16) (w : FVec Ideal S1024x1024 .bf16) (g : FVec Ideal S1x1024 .f32)
    (wh wl : FVec Ideal S1024x128 .bf16) (b : FVec Ideal S1x128 .f32) (r : Fin 512) (l : Fin 128) (n p q : Fin 1024 → EReal) (hn : ∀ k, brow h a w g r k = n k)
    (hp : ∀ k, (wh (ix2 k l) : EReal) = p k) (hq : ∀ k, (wl (ix2 k l) : EReal) = q k) :
    (show EReal from scored h a w g wh wl b (ix3 0 r l)) = (∑ k, n k * p k) + ((∑ k, n k * q k) + ∑ k, (n k - n k) * p k) + b (ix2 0 l) := by
  have e9 : ∀ k, (show EReal from k0_pay9 (F := Ideal) h a w g (ix2 r k)) = n k := fun k => (pay9_at h a w g r k).trans (hn k)
  have e10 : ∀ k, (show EReal from k0_pay10 (F := Ideal) h a w g (ix2 r k)) = n k := e9
  pointwise [scored, k0_pay15, k0_pay11, k0_pay12, k0_pay13, k0_pay14]
  refine congrArg (· + (b (ix2 0 l) : EReal)) (congrArg₂ (· + ·) (Finset.sum_congr rfl fun k _ => congrArg₂ (· * ·) (e10 k) (hp k))
    (congrArg₂ (· + ·) (Finset.sum_congr rfl fun k _ => congrArg₂ (· * ·) (e10 k) (hq k))
      (Finset.sum_congr rfl fun k _ => congrArg₂ (· * ·) (congrArg₂ (· - ·) (e9 k) (e10 k)) (hp k))))

variable (m : (ℓ : Loc nD τ sig) → Buf (Elt Ideal) ℓ)

theorem wh_block (c : Dev nD) (t : Fin cfg0.N) (k : Fin 1024) (l : Fin 128) :
    (iblk m c 4 t : FVec Ideal S1024x128 .bf16) (ix2 k l) = (V m c main_v12 : FVec Ideal S1024x128 .bf16) (ix2 k l) := by
  have hix : win0_4.index t = ![0, 0] := (by decide +kernel : ∀ t : Fin grid0.N, win0_4.index t = ![0, 0]) t
  blk_ext [iblk, hix]

theorem wl_block (c : Dev nD) (t : Fin cfg0.N) (k : Fin 1024) (l : Fin 128) :
    (iblk m c 5 t : FVec Ideal S1024x128 .bf16) (ix2 k l) = (V m c main_v15 : FVec Ideal S1024x128 .bf16) (ix2 k l) := by
  have hix : win0_5.index t = ![0, 0] := (by decide +kernel : ∀ t : Fin grid0.N, win0_5.index t = ![0, 0]) t
  blk_ext [iblk, hix]

theorem b_block (c : Dev nD) (t : Fin cfg0.N) (l : Fin 128) :
    (iblk m c 6 t : FVec Ideal S1x128 .f32) (ix2 0 l) = (V m c main_v11 : FVec Ideal S1x128 .f32) (ix2 0 l) := by
  have hix : win0_6.index t = ![0, 0] := (by decide +kernel : ∀ t : Fin grid0.N, win0_6.index t = ![0, 0]) t
  blk_ext [iblk, hix]

theorem ra_block (c : Dev nD) (t : Fin cfg0.N) (q : ℕ) (hq : q < 64) (e : q = min t.val 63) (r : Fin 512) (k : Fin 1024) :
    (iblk m c 0 t : FVec Ideal S512x1024 .bf16) (ix2 r k) = (m ((c.tc : Thread nD τ).loc main_arg0) : FVec Ideal S32768x1024 .bf16) (ix2 ⟨q * 512 + r.val, by omega⟩ k) := by
  have hix : win0_0.index t = ![q, 0] := e ▸ (by decide +kernel : ∀ t : Fin grid0.N, win0_0.index t = ![min t.val 63, 0]) t
  have e : (iblk m c 0 t : FVec Ideal S512x1024 .bf16) (ix2 r k) = (V m c main_arg0 : FVec Ideal S32768x1024 .bf16) (ix2 ⟨q * 512 + r.val, by omega⟩ k) := by
    blk_ext [iblk, hix]
  exact e.trans (congrFun (V_main_arg0 m c) _)

theorem rh_block (c : Dev nD) (t : Fin cfg0.N) (q : ℕ) (hq : q < 64) (e : q = min t.val 63) (r : Fin 512) (k : Fin 1024) :
    (iblk m c 1 t : FVec Ideal S512x1024 .f32) (ix2 r k) = (m ((c.tc : Thread nD τ).loc main_arg1) : FVec Ideal S32768x1024 .f32) (ix2 ⟨q * 512 + r.val, by omega⟩ k) := by
  have hix : win0_1.index t = ![q, 0] := e ▸ (by decide +kernel : ∀ t : Fin grid0.N, win0_1.index t = ![min t.val 63, 0]) t
  have e : (iblk m c 1 t : FVec Ideal S512x1024 .f32) (ix2 r k) = (V m c main_arg1 : FVec Ideal S32768x1024 .f32) (ix2 ⟨q * 512 + r.val, by omega⟩ k) := by
    blk_ext [iblk, hix]
  exact e.trans (congrFun (V_main_arg1 m c) _)

theorem rw_block (c : Dev nD) (t : Fin cfg0.N) (k d : Fin 1024) :
    (iblk m c 2 t : FVec Ideal S1024x1024 .bf16) (ix2 k d) = (m ((c.tc : Thread nD τ).loc main_arg2) : FVec Ideal S1024x1024 .f32) (ix2 k d) := by
  have hix : win0_2.index t = ![0, 0] := (by decide +kernel : ∀ t : Fin grid0.N, win0_2.index t = ![0, 0]) t
  have e : (iblk m c 2 t : FVec Ideal S1024x1024 .bf16) (ix2 k d) = (V m c main_v0 : FVec Ideal S1024x1024 .bf16) (ix2 k d) := by
    blk_ext [iblk, hix]
  rw [e]
  simp only [V, V0, hostOps0, hostOps0_1, hostOps0_2, hostOps0_3, hostOps0_4, hostOps0_5, hostOps0_6, List.flatten_cons, List.flatten_nil, List.append_nil,
    List.cons_append, List.nil_append]
  entry_read
  pointwise

theorem rg_block (c : Dev nD) (t : Fin cfg0.N) (k : Fin 1024) :
    (iblk m c 3 t : FVec Ideal S1x1024 .f32) (ix2 0 k) = (m ((c.tc : Thread nD τ).loc main_arg3) : FVec Ideal S1024 .f32) (ix1 k) := by
  have hix : win0_3.index t = ![0, 0] := (by decide +kernel : ∀ t : Fin grid0.N, win0_3.index t = ![0, 0]) t
  have e : (iblk m c 3 t : FVec Ideal S1x1024 .f32) (ix2 0 k) = (V m c main_v19 : FVec Ideal S1x1024 .f32) (ix2 0 k) := by
    blk_ext [iblk, hix]
  rw [e]
  simp only [V, V0, hostOps0, hostOps0_1, hostOps0_2, hostOps0_3, hostOps0_4, hostOps0_5, hostOps0_6, List.flatten_cons, List.flatten_nil, List.append_nil,
    List.cons_append, List.nil_append]
  entry_read
  pointwise

end Cert.RouteProof

end
-- ==== Proof.RouteFinal.lean ====
module

public import proofs.«01_k».proof.Proof.RouteLogits

/-! What the routing leaves in its four results, row by row, over finite arguments. -/

@[expose] public section

set_option maxRecDepth 16384

noncomputable section

namespace Cert.RouteProof

open Cert.RouteIdeal Cert.RouteIdeal.Gen
open Idealize.ShloMosaic Idealize.ShloMosaic.TcCoe Idealize.SL.Sem
open Cert.QkvProof (normed)
open Cert.OutProof (resid hrow)

/-- A group's logit of row `r`. -/
def glog (A : FVec Ideal S32768x1024 .bf16) (H : FVec Ideal S32768x1024 .f32) (W : FVec Ideal S1024x1024 .f32) (N : FVec Ideal S1024 .f32)
    (X : FVec Ideal S1024x4 .f32) (b : FVec Ideal S4 .f32) (r : Fin 32768) (g : Fin 4) : EReal :=
  (∑ k : Fin 1024, normed (hrow A H W r) (fun k => N (ix1 k)) k * X (ix2 k g)) + b (ix1 g)
/-- An expert's logit of row `r`. -/
def elog (A : FVec Ideal S32768x1024 .bf16) (H : FVec Ideal S32768x1024 .f32) (W : FVec Ideal S1024x1024 .f32) (N : FVec Ideal S1024 .f32)
    (X : FVec Ideal S1024x32 .f32) (b : FVec Ideal S32 .f32) (r : Fin 32768) (x : Fin 32) : EReal :=
  (∑ k : Fin 1024, normed (hrow A H W r) (fun k => N (ix1 k)) k * X (ix2 k x)) + b (ix1 x)

variable (m : (ℓ : Loc nD τ sig) → Buf (Elt Ideal) ℓ)

theorem cut_21 (x : FVec Ideal S32768x128 .f32) (r : Fin 32768) :
    (show EReal from extractStridedSlice S32768x1 ![0, 0] x slices_S32768x128_S32768x1_0_0 (ix2 r 0)) = x (ix2 r 0) := by
  pointwise
theorem cut_22 (x : FVec Ideal S32768x128 .f32) (r : Fin 32768) :
    (show EReal from extractStridedSlice S32768x1 ![0, 1] x slices_S32768x128_S32768x1_0_1 (ix2 r 0)) = x (ix2 r 1) := by
  pointwise
theorem cut_23 (x : FVec Ideal S32768x128 .f32) (r : Fin 32768) :
    (show EReal from extractStridedSlice S32768x1 ![0, 2] x slices_S32768x128_S32768x1_0_2 (ix2 r 0)) = x (ix2 r 2) := by
  pointwise
theorem cut_24 (x : FVec Ideal S32768x128 .f32) (r : Fin 32768) :
    (show EReal from extractStridedSlice S32768x1 ![0, 3] x slices_S32768x128_S32768x1_0_3 (ix2 r 0)) = x (ix2 r 3) := by
  pointwise

/-- Every entry of every argument is a real number. -/
structure Reals (c : Dev nD) : Prop where
  a0 : ∀ r k, IsReal ((m ((c.tc : Thread nD τ).loc main_arg0) : FVec Ideal S32768x1024 .bf16) (ix2 r k))
  a1 : ∀ r k, IsReal ((m ((c.tc : Thread nD τ).loc main_arg1) : FVec Ideal S32768x1024 .f32) (ix2 r k))
  a2 : ∀ k d, IsReal ((m ((c.tc : Thread nD τ).loc main_arg2) : FVec Ideal S1024x1024 .f32) (ix2 k d))
  a3 : ∀ k, IsReal ((m ((c.tc : Thread nD τ).loc main_arg3) : FVec Ideal S1024 .f32) (ix1 k))
  a4 : ∀ k g, IsReal ((m ((c.tc : Thread nD τ).loc main_arg4) : FVec Ideal S1024x4 .f32) (ix2 k g))
  a5 : ∀ g, IsReal ((m ((c.tc : Thread nD τ).loc main_arg5) : FVec Ideal S4 .f32) (ix1 g))
  a6 : ∀ k x, IsReal ((m ((c.tc : Thread nD τ).loc main_arg6) : FVec Ideal S1024x32 .f32) (ix2 k x))
  a7 : ∀ x, IsReal ((m ((c.tc : Thread nD τ).loc main_arg7) : FVec Ideal S32 .f32) (ix1 x))

/-- The groups' logits of the launch. -/
abbrev lg (c : Dev nD) (r : Fin 32768) : Fin 4 → EReal :=
  glog (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) r
/-- The experts' logits of the launch. -/
abbrev le (c : Dev nD) (r : Fin 32768) : Fin 32 → EReal :=
  elog (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg6)) (m ((c.tc : Thread nD τ).loc main_arg7)) r

/-- The normed row of the launch. -/
abbrev nrow (c : Dev nD) (r : Fin 32768) : Fin 1024 → EReal :=
  normed (hrow (m ((c.tc : Thread nD τ).loc main_arg0)) (m ((c.tc : Thread nD τ).loc main_arg1)) (m ((c.tc : Thread nD τ).loc main_arg2)) r)
    (fun k => (m ((c.tc : Thread nD τ).loc main_arg3) : FVec Ideal S1024 .f32) (ix1 k))

section
variable (c : Dev nD) (h : Reals m c)
include h

theorem nrow_real (r : Fin 32768) (k : Fin 1024) : IsReal (nrow m c r k) :=
  normed_real (fun k => resid_real (fun k => h.a0 r k) (fun k => h.a1 r k) (fun k d => h.a2 k d) k) (fun k => h.a3 k) k

theorem lg_real (r : Fin 32768) (g : Fin 4) : IsReal (lg m c r g) :=
  (IsReal.sum fun k => (nrow_real m c h r k).mul (h.a4 k g)).add (h.a5 g)

theorem le_real (r : Fin 32768) (x : Fin 32) : IsReal (le m c r x) :=
  (IsReal.sum fun k => (nrow_real m c h r k).mul (h.a6 k x)).add (h.a7 x)

/-- The lanes of a row that the routing reads. -/
theorem lanes (t : Fin cfg0.N) (q : ℕ) (hq : q < 64) (e : q = min t.val 63) (r : Fin 512) :
    (∀ x : Fin 32, row (scored (iblk m c 1 t) (iblk m c 0 t) (iblk m c 2 t) (iblk m c 3 t) (iblk m c 4 t) (iblk m c 5 t) (iblk m c 6 t)) r ⟨x.val, lane_lo x⟩
        = lg m c ⟨q * 512 + r.val, by omega⟩ ⟨x.val / 8, group_of x⟩)
    ∧ ∀ x : Fin 32, row (scored (iblk m c 1 t) (iblk m c 0 t) (iblk m c 2 t) (iblk m c 3 t) (iblk m c 4 t) (iblk m c 5 t) (iblk m c 6 t)) r ⟨x.val + 64, lane_hi x⟩
        = le m c ⟨q * 512 + r.val, by omega⟩ x := by
  obtain ⟨v, ev⟩ := entry_v12 m c
  obtain ⟨v', eb⟩ := entry_v11 m c
  have hn : ∀ k, brow (iblk m c 1 t) (iblk m c 0 t) (iblk m c 2 t) (iblk m c 3 t) r k = nrow m c ⟨q * 512 + r.val, by omega⟩ k := by
    intro k
    simp only [brow, ra_block m c t q hq e, rh_block m c t q hq e, rw_block m c t, rg_block m c t]
    rfl
  have lane : ∀ l : Fin 128, ∀ p : Fin 1024 → EReal, ∀ b : EReal, (∀ k, IsReal (p k)) →
      (∀ k, (show EReal from wide_w (m ((c.tc : Thread nD τ).loc main_arg4)) (m ((c.tc : Thread nD τ).loc main_arg6)) v (ix2 k l)) = p k) →
      (show EReal from wide_b (m ((c.tc : Thread nD τ).loc main_arg5)) (m ((c.tc : Thread nD τ).loc main_arg7)) v' (ix1 l)) = b →
      row (scored (iblk m c 1 t) (iblk m c 0 t) (iblk m c 2 t) (iblk m c 3 t) (iblk m c 4 t) (iblk m c 5 t) (iblk m c 6 t)) r l
        = (∑ k, nrow m c ⟨q * 512 + r.val, by omega⟩ k * p k) + b := by
    intro l p b hp ep eb'
    refine (scored_at (iblk m c 1 t) (iblk m c 0 t) (iblk m c 2 t) (iblk m c 3 t) (iblk m c 4 t) (iblk m c 5 t) (iblk m c 6 t) r l
      (nrow m c ⟨q * 512 + r.val, by omega⟩) p (fun k => p k - p k) hn (fun k => ?_) (fun k => ?_)).trans ?_
    · exact (wh_block m c t k l).trans ((ev k l).1.trans (ep k))
    · exact (wl_block m c t k l).trans ((ev k l).2.trans (congrArg₂ (fun x y : EReal => x - y) (ep k) (ep k)))
    · exact (low_parts _ p _ (nrow_real m c h _) hp).trans (congrArg (fun x : EReal => (∑ k, nrow m c ⟨q * 512 + r.val, by omega⟩ k * p k) + x) ((b_block m c t l).trans ((eb l).trans eb')))
  refine ⟨fun x => ?_, fun x => ?_⟩
  · exact lane ⟨x.val, by omega⟩ (fun k => (m ((c.tc : Thread nD τ).loc main_arg4) : FVec Ideal S1024x4 .f32) (ix2 k ⟨x.val / 8, by omega⟩)) _ (fun k => h.a4 k _)
      (fun k => (catw_lo _ _ _ v k x).trans (rep_w _ k x)) ((catb_lo _ _ _ v' x).trans (rep_b _ x))
  · exact lane ⟨x.val + 64, by omega⟩ (fun k => (m ((c.tc : Thread nD τ).loc main_arg6) : FVec Ideal S1024x32 .f32) (ix2 k x)) _ (fun k => h.a6 k _)
      (fun k => catw_hi _ _ _ v k x) (catb_hi _ _ _ v' x)

/-- What lane `k` of the routing's array is to hold. -/
def lane4 (r : Fin 32768) (k : ℕ) : EReal :=
  if k = 0 then rone (lg m c r) (le m c r) else if k = 1 then rtwo (lg m c r) (le m c r)
  else if k = 2 then rw1 (lg m c r) (le m c r) else rw2 (lg m c r) (le m c r)

/-- Point `t` routes the block that the point before it scored. -/
theorem point10 (t u : Fin cfg0.N) (hu : u.val + 1 = t.val) (r : Fin 512) (l : Fin 128) (hl : l.val < 4) (hu64 : u.val < 64) (R : Fin 32768) (hR : R.val = u.val * 512 + r.val) :
    (show EReal from ((outsAt0 m c t.val t.isLt).2.2.1 : FVec Ideal S512x128 .f32) (ix2 r l)) = lane4 m c R l.val := by
  have ht : t.val < 65 := t.isLt
  have hlt : ∀ u r : ℕ, u < 64 → r < 512 → u * 512 + r < 32768 := by
    intro u r hu hr
    clear hR
    omega
  obtain rfl : R = ⟨u.val * 512 + r.val, hlt _ _ hu64 r.isLt⟩ := Fin.ext hR
  obtain ⟨a, b, eo⟩ := route_at m c t u hu
  obtain ⟨hG, hE⟩ := lanes m c h u u.val (by omega) (by omega) r
  have fG := lg_real m c h ⟨u.val * 512 + r.val, by omega⟩
  have fE := le_real m c h ⟨u.val * 512 + r.val, by omega⟩
  refine (congrFun eo (ix2 r l)).trans ?_
  obtain rfl | rfl | rfl | rfl : l = 0 ∨ l = 1 ∨ l = 2 ∨ l = 3 := by
    simp only [Fin.ext_iff]
    show l.val = 0 ∨ l.val = 1 ∨ l.val = 2 ∨ l.val = 3
    omega
  · exact (routed_0 _ r a b).trans (kone_eq _ _ _ hG hE)
  · exact (routed_1 _ r a b).trans (ktwo_eq _ _ _ hG hE)
  · exact (routed_2 _ r a b).trans (kw1_eq _ _ _ hG hE fG fE)
  · exact (routed_3 _ r a b).trans (kw2_eq _ _ _ hG hE fG fE)

theorem final10 (i : S32768x128.Idx) : (i 1).val < 4 → ((dats m 0 c).arrAt 10 (cfgs 0).N : FVec Ideal S32768x128 .f32) i = lane4 m c (i 0) (i 1).val := by
  refine (dats m 0 c).arrAt_forall_of_covers 10 (fun (i : S32768x128.Idx) (v : EReal) => (i 1).val < 4 → v = lane4 m c (i 0) (i 1).val) (by decide +kernel) (fun t hf y => ?_) i
  blk_simp
  rw [after0_10]
  have ht1 : 1 ≤ t.val := (by decide +kernel : ∀ t : Fin grid0.N, win0_10.flush t = true → 1 ≤ t.val) t hf
  have ht : t.val < 65 := t.isLt
  have hix : win0_10.index t = ![t.val - 1, 0] := (by decide +kernel : ∀ t : Fin grid0.N, win0_10.index t = ![t.val - 1, 0]) t
  obtain ⟨r, l, rfl⟩ : ∃ (r : Fin 512) (l : Fin 128), y = (ix2 r l : S512x128.Idx) := ⟨y (0 : Fin 2), y (1 : Fin 2), eq_ix2 _⟩
  have he : (((cfg0.win 10).blk t).view.emb (ix2 r l : S512x128.Idx) : S32768x128.Idx) = ix2 ⟨(t.val - 1) * 512 + r.val, by omega⟩ l := by
    blk_ext [hix]
  rw [he]
  have h1 : win0_10.index t 1 = 0 := by rw [hix]; rfl
  rw [h1]
  intro hl
  have hl' : l.val < 4 := by
    have : 0 * 128 + l.val < 4 := hl
    omega
  have e0 : 0 * 128 + ((ix2 r l : S512x128.Idx) 1).val = l.val := by
    show 0 * 128 + l.val = l.val
    omega
  rw [e0]
  exact point10 m c h t ⟨t.val - 1, by show t.val - 1 < 65; omega⟩ (by show t.val - 1 + 1 = t.val; omega) r l hl' (by show t.val - 1 < 64; omega) ⟨(t.val - 1) * 512 + r.val, by omega⟩ rfl

/-! The four results, read from the routing's array by the lines after the call. -/

theorem tail_21 (r : Fin 32768) : (show EReal from (Pipeline.afterTail₀ cfgs (dats m) 0 (V0 m) [hostOps1] c main_v21 : FVec Ideal S32768x1 .f32) (ix2 r 0)) = lane4 m c r 0 := by
  refine Eq.trans ?_ (final10 m c h (ix2 r 0) (show 0 < 4 by decide))
  unfold Pipeline.afterTail₀
  simp only [hostOps1, List.flatten_cons, List.flatten_nil, List.append_nil, List.cons_append, List.nil_append]
  have ew := Pipeline.withArrays_arr spec0 (by decide) c (V0 m c) (fun w => (dats m 0 c).arrAt w (cfgs 0).N) 10
  generalize Pipeline.withArrays spec0 c (V0 m c) (fun w => (dats m 0 c).arrAt w (cfgs 0).N) = W at ew ⊢
  entry_read
  rw [← ew]
  exact cut_21 (W (Proc.devRef .tc main_v20_2)) r

theorem tail_22 (r : Fin 32768) : (show EReal from (Pipeline.afterTail₀ cfgs (dats m) 0 (V0 m) [hostOps1] c main_v22 : FVec Ideal S32768x1 .f32) (ix2 r 0)) = lane4 m c r 1 := by
  refine Eq.trans ?_ (final10 m c h (ix2 r 1) (show 1 < 4 by decide))
  unfold Pipeline.afterTail₀
  simp only [hostOps1, List.flatten_cons, List.flatten_nil, List.append_nil, List.cons_append, List.nil_append]
  have ew := Pipeline.withArrays_arr spec0 (by decide) c (V0 m c) (fun w => (dats m 0 c).arrAt w (cfgs 0).N) 10
  generalize Pipeline.withArrays spec0 c (V0 m c) (fun w => (dats m 0 c).arrAt w (cfgs 0).N) = W at ew ⊢
  entry_read
  rw [← ew]
  exact cut_22 (W (Proc.devRef .tc main_v20_2)) r

theorem tail_23 (r : Fin 32768) : (show EReal from (Pipeline.afterTail₀ cfgs (dats m) 0 (V0 m) [hostOps1] c main_v23 : FVec Ideal S32768x1 .f32) (ix2 r 0)) = lane4 m c r 2 := by
  refine Eq.trans ?_ (final10 m c h (ix2 r 2) (show 2 < 4 by decide))
  unfold Pipeline.afterTail₀
  simp only [hostOps1, List.flatten_cons, List.flatten_nil, List.append_nil, List.cons_append, List.nil_append]
  have ew := Pipeline.withArrays_arr spec0 (by decide) c (V0 m c) (fun w => (dats m 0 c).arrAt w (cfgs 0).N) 10
  generalize Pipeline.withArrays spec0 c (V0 m c) (fun w => (dats m 0 c).arrAt w (cfgs 0).N) = W at ew ⊢
  entry_read
  rw [← ew]
  exact cut_23 (W (Proc.devRef .tc main_v20_2)) r

theorem tail_24 (r : Fin 32768) : (show EReal from (Pipeline.afterTail₀ cfgs (dats m) 0 (V0 m) [hostOps1] c main_v24 : FVec Ideal S32768x1 .f32) (ix2 r 0)) = lane4 m c r 3 := by
  refine Eq.trans ?_ (final10 m c h (ix2 r 3) (show 3 < 4 by decide))
  unfold Pipeline.afterTail₀
  simp only [hostOps1, List.flatten_cons, List.flatten_nil, List.append_nil, List.cons_append, List.nil_append]
  have ew := Pipeline.withArrays_arr spec0 (by decide) c (V0 m c) (fun w => (dats m 0 c).arrAt w (cfgs 0).N) 10
  generalize Pipeline.withArrays spec0 c (V0 m c) (fun w => (dats m 0 c).arrAt w (cfgs 0).N) = W at ew ⊢
  entry_read
  rw [← ew]
  exact cut_24 (W (Proc.devRef .tc main_v20_2)) r
end

end Cert.RouteProof

end
-- ==== Proof.RouteRef.lean ====
module

public import proofs.«01_k».proof.Proof.RouteFinal
public import proofs.«01_k».proof.Proof.OutRef
public import proofs.«01_k».proof.Proof.Gen.RouteRefIdeal.Run
public import Idealize.ShloMosaic.Lib.Pointwise

/-! The reference of the routing, read row by row. -/

@[expose] public section

set_option maxRecDepth 16384

noncomputable section

namespace Cert.RouteRefIdeal.Value

open Cert.RouteRefIdeal Cert.RouteRefIdeal.Gen Cert.RouteProof
open Idealize.ShloMosaic Idealize.ShloMosaic.TcCoe Idealize.SL.Sem

/-- The groups' numbers and the experts'. -/
abbrev n4 : FVec Ideal S4 .f32 := sitofp .f32 (iotaInDim S4 32 0)
abbrev n32 : FVec Ideal S32 .f32 := sitofp .f32 (iotaInDim S32 32 0)

/-- The groups' logits and the experts'. -/
abbrev lg4 (x : FVec Ideal S32768x1024 .f32) (X : FVec Ideal S1024x4 .f32) (b : FVec Ideal S4 .f32) : FVec Ideal S32768x4 .f32 :=
  addf (Host.dotGeneral dot_S32768x1024_S1024x4_S32768x4_1_0_0_1_n_n none x X) (broadcastInDim S32768x4 ![0, 1] bcast_S1x4_S32768x4_0_1 (broadcastInDim S1x4 ![1] bcast_S4_S1x4_1 b))
abbrev lg32 (x : FVec Ideal S32768x1024 .f32) (X : FVec Ideal S1024x32 .f32) (b : FVec Ideal S32 .f32) : FVec Ideal S32768x32 .f32 :=
  addf (Host.dotGeneral dot_S32768x1024_S1024x32_S32768x32_1_0_0_1_n_n none x X) (broadcastInDim S32768x32 ![0, 1] bcast_S1x32_S32768x32_0_1 (broadcastInDim S1x32 ![1] bcast_S32_S1x32_1 b))

/-- The largest of each row. -/
abbrev t4 (x : FVec Ideal S32768x4 .f32) : FVec Ideal S32768x1 .f32 :=
  broadcastInDim S32768x1 ![0] bcast_S32768_S32768x1_0 (Host.reduce FloatOps.maximumf x (constant S_ .f32 0xFF800000#32) reducesTo_S32768x4_S32768_d1 h_S_)
abbrev t32 (x : FVec Ideal S32768x32 .f32) : FVec Ideal S32768x1 .f32 :=
  broadcastInDim S32768x1 ![0] bcast_S32768_S32768x1_0 (Host.reduce FloatOps.maximumf x (constant S_ .f32 0xFF800000#32) reducesTo_S32768x32_S32768_d1 h_S_)

/-- The first place it stands at. -/
abbrev f4 (x : FVec Ideal S32768x4 .f32) (t : FVec Ideal S32768x1 .f32) : FVec Ideal S32768x1 .f32 :=
  broadcastInDim S32768x1 ![0] bcast_S32768_S32768x1_0 (Host.reduce FloatOps.minimumf (select (cmpf .oeq x (broadcastInDim S32768x4 ![0, 1] bcast_S32768x1_S32768x4_0_1 t))
    (broadcastInDim S32768x4 ![1] bcast_S4_S32768x4_1 n4) (broadcastInDim S32768x4 ![] bcast_S_S32768x4 (constant S_ .f32 0x40800000#32))) (constant S_ .f32 0x7F800000#32) reducesTo_S32768x4_S32768_d1 h_S_)
abbrev f32 (x : FVec Ideal S32768x32 .f32) (t : FVec Ideal S32768x1 .f32) : FVec Ideal S32768x1 .f32 :=
  broadcastInDim S32768x1 ![0] bcast_S32768_S32768x1_0 (Host.reduce FloatOps.minimumf (select (cmpf .oeq x (broadcastInDim S32768x32 ![0, 1] bcast_S32768x1_S32768x32_0_1 t))
    (broadcastInDim S32768x32 ![1] bcast_S32_S32768x32_1 n32) (broadcastInDim S32768x32 ![] bcast_S_S32768x32 (constant S_ .f32 0x42000000#32))) (constant S_ .f32 0x7F800000#32) reducesTo_S32768x32_S32768_d1 h_S_)

/-- The group's gate. -/
abbrev g4 (x : FVec Ideal S32768x4 .f32) (t : FVec Ideal S32768x1 .f32) : FVec Ideal S32768x1 .f32 :=
  Host.divf (Host.exp (subf t t)) (broadcastInDim S32768x1 ![0] bcast_S32768_S32768x1_0 (Host.reduceAdd (Host.exp (subf x (broadcastInDim S32768x4 ![0, 1] bcast_S32768x1_S32768x4_0_1 t)))
    (constant S_ .f32 0x00000000#32) reducesTo_S32768x4_S32768_d1 h_S_))

/-- The logits of the group's experts, the others dead. -/
abbrev z32 (q : FVec Ideal S32768x1 .f32) (y : FVec Ideal S32768x32 .f32) : FVec Ideal S32768x32 .f32 :=
  select (cmpf .oeq (broadcastInDim S32768x32 ![0, 1] bcast_S1x32_S32768x32_0_1 (broadcastInDim S1x32 ![1] bcast_S32_S1x32_1 (shapeCast S32 (broadcastInDim S4x8 ![0] bcast_S4_S4x8_0 n4) shapeCasts_S4x8_S32)))
    (broadcastInDim S32768x32 ![0, 1] bcast_S32768x1_S32768x32_0_1 q)) y (broadcastInDim S32768x32 ![] bcast_S_S32768x32 (constant S_ .f32 0xFF800000#32))

/-- The scores without the first expert's. -/
abbrev w32 (q : FVec Ideal S32768x1 .f32) (z : FVec Ideal S32768x32 .f32) : FVec Ideal S32768x32 .f32 :=
  select (cmpf .oeq (broadcastInDim S32768x32 ![0, 1] bcast_S1x32_S32768x32_0_1 (broadcastInDim S1x32 ![1] bcast_S32_S1x32_1 n32)) (broadcastInDim S32768x32 ![0, 1] bcast_S32768x1_S32768x32_0_1 q))
    (broadcastInDim S32768x32 ![] bcast_S_S32768x32 (constant S_ .f32 0xFF800000#32)) z

/-- The sum of the exponentials. -/
abbrev s32 (z : FVec Ideal S32768x32 .f32) (t : FVec Ideal S32768x1 .f32) : FVec Ideal S32768x1 .f32 :=
  broadcastInDim S32768x1 ![0] bcast_S32768_S32768x1_0 (Host.reduceAdd (Host.exp (subf z (broadcastInDim S32768x32 ![0, 1] bcast_S32768x1_S32768x32_0_1 t)))
    (constant S_ .f32 0x00000000#32) reducesTo_S32768x32_S32768_d1 h_S_)
abbrev v32 (u t s : FVec Ideal S32768x1 .f32) : FVec Ideal S32768x1 .f32 := Host.divf (Host.exp (subf u t)) s

theorem ite_both {a a' b b' y y' z z' : EReal} [Decidable (a = b)] [Decidable (a' = b')] (ha : a = a') (hb : b = b') (hy : y = y') (hz : z = z') :
    (if a = b then y else z) = if a' = b' then y' else z' := by
  subst ha hb hy hz
  by_cases h : a = b
  · rw [if_pos h, if_pos h]
  · rw [if_neg h, if_neg h]

variable (r : Fin 32768)

theorem lg4_at (x : FVec Ideal S32768x1024 .f32) (X : FVec Ideal S1024x4 .f32) (b : FVec Ideal S4 .f32) (g : Fin 4) :
    (show EReal from lg4 x X b (ix2 r g)) = (∑ k : Fin 1024, x (ix2 r k) * X (ix2 k g)) + b (ix1 g) := by
  pointwise [lg4]
theorem lg32_at (x : FVec Ideal S32768x1024 .f32) (X : FVec Ideal S1024x32 .f32) (b : FVec Ideal S32 .f32) (g : Fin 32) :
    (show EReal from lg32 x X b (ix2 r g)) = (∑ k : Fin 1024, x (ix2 r k) * X (ix2 k g)) + b (ix1 g) := by
  pointwise [lg32]

theorem t4_at (x : FVec Ideal S32768x4 .f32) (G : Fin 4 → EReal) (hx : ∀ g, (x (ix2 r g) : EReal) = G g) : (show EReal from t4 x (ix2 r 0)) = top G := by
  pointwise [t4]
  rw [bits_bot]
  exact congrArg (fun f => Finset.univ.fold max ⊥ f) (funext hx)
theorem t32_at (x : FVec Ideal S32768x32 .f32) (E : Fin 32 → EReal) (hx : ∀ g, (x (ix2 r g) : EReal) = E g) : (show EReal from t32 x (ix2 r 0)) = top E := by
  pointwise [t32]
  rw [bits_bot]
  exact congrArg (fun f => Finset.univ.fold max ⊥ f) (funext hx)

theorem f4_at (x : FVec Ideal S32768x4 .f32) (t : FVec Ideal S32768x1 .f32) (G : Fin 4 → EReal) (hx : ∀ g, (x (ix2 r g) : EReal) = G g) (ht : (t (ix2 r 0) : EReal) = top G) :
    (show EReal from f4 x t (ix2 r 0)) = first G ((4 : ℕ) : ℝ) := by
  pointwise [f4, n4]
  rw [bits_top, bits_4]
  exact first_congr _ _ _ _ _ (funext hx) ht fun l => lane_num l (by decide)
theorem f32_at (x : FVec Ideal S32768x32 .f32) (t : FVec Ideal S32768x1 .f32) (E : Fin 32 → EReal) (hx : ∀ g, (x (ix2 r g) : EReal) = E g) (ht : (t (ix2 r 0) : EReal) = top E) :
    (show EReal from f32 x t (ix2 r 0)) = first E ((32 : ℕ) : ℝ) := by
  pointwise [f32, n32]
  rw [bits_top, bits_32]
  exact first_congr _ _ _ _ _ (funext hx) ht fun l => lane_num l (by decide)

theorem g4_at (x : FVec Ideal S32768x4 .f32) (t : FVec Ideal S32768x1 .f32) (G : Fin 4 → EReal) (hx : ∀ g, (x (ix2 r g) : EReal) = G g) (ht : (t (ix2 r 0) : EReal) = top G) :
    (show EReal from g4 x t (ix2 r 0)) = rgate G := by
  pointwise [g4]
  rw [ht]
  simp only [hx]
  rfl

theorem z32_at (q : FVec Ideal S32768x1 .f32) (y : FVec Ideal S32768x32 .f32) (G : Fin 4 → EReal) (E : Fin 32 → EReal) (hq : (q (ix2 r 0) : EReal) = first G ((4 : ℕ) : ℝ))
    (hy : ∀ g, (y (ix2 r g) : EReal) = E g) (x : Fin 32) : (show EReal from z32 q y (ix2 r x)) = rexp G E x := by
  pointwise [z32, n4]
  rw [bits_bot]
  exact ite_both ((lane_num (⟨x.val / 8, group_of x⟩ : Fin 4) (by decide)).trans rfl) hq (hy x) rfl

theorem w32_at (q : FVec Ideal S32768x1 .f32) (z : FVec Ideal S32768x32 .f32) (G : Fin 4 → EReal) (E : Fin 32 → EReal) (hq : (q (ix2 r 0) : EReal) = rone G E)
    (hz : ∀ g, (z (ix2 r g) : EReal) = rexp G E g) (x : Fin 32) : (show EReal from w32 q z (ix2 r x)) = rrest G E x := by
  pointwise [w32, n32]
  rw [bits_bot]
  exact ite_both (lane_num x (by decide)) hq rfl (hz x)

theorem s32_at (z : FVec Ideal S32768x32 .f32) (t : FVec Ideal S32768x1 .f32) (G : Fin 4 → EReal) (E : Fin 32 → EReal) (hz : ∀ g, (z (ix2 r g) : EReal) = rexp G E g)
    (ht : (t (ix2 r 0) : EReal) = top (rexp G E)) : (show EReal from s32 z t (ix2 r 0)) = rsum G E := by
  pointwise [s32]
  rw [ht]
  simp only [hz]
  rfl

theorem v32_at (u t s : FVec Ideal S32768x1 .f32) : (show EReal from v32 u t s (ix2 r 0)) = Ideal.div (Ideal.exp (u (ix2 r 0) - t (ix2 r 0))) (s (ix2 r 0)) := by
  pointwise [v32]

/-! The whole of the reference, over logits and then over the arguments. -/

section
variable (x : FVec Ideal S32768x4 .f32) (y : FVec Ideal S32768x32 .f32)

abbrev e47 : FVec Ideal S32768x32 .f32 := z32 (f4 x (t4 x)) y
abbrev e54 : FVec Ideal S32768x1 .f32 := f32 (e47 x y) (t32 (e47 x y))
abbrev e59 : FVec Ideal S32768x32 .f32 := w32 (e54 x y) (e47 x y)
abbrev e66 : FVec Ideal S32768x1 .f32 := f32 (e59 x y) (t32 (e59 x y))
abbrev e74 : FVec Ideal S32768x1 .f32 := v32 (t32 (e47 x y)) (t32 (e47 x y)) (s32 (e47 x y) (t32 (e47 x y)))
abbrev e77 : FVec Ideal S32768x1 .f32 := v32 (t32 (e59 x y)) (t32 (e47 x y)) (s32 (e47 x y) (t32 (e47 x y)))
abbrev e80 : FVec Ideal S32768x1 .f32 := mulf (g4 x (t4 x)) (Host.divf (e74 x y) (addf (e74 x y) (e77 x y)))
abbrev e83 : FVec Ideal S32768x1 .f32 := mulf (g4 x (t4 x)) (Host.divf (e77 x y) (addf (e74 x y) (e77 x y)))

variable (G : Fin 4 → EReal) (E : Fin 32 → EReal) (hx : ∀ g, (x (ix2 r g) : EReal) = G g) (hy : ∀ g, (y (ix2 r g) : EReal) = E g)
include hx hy

theorem e47_at (g : Fin 32) : (show EReal from e47 x y (ix2 r g)) = rexp G E g :=
  z32_at r (f4 x (t4 x)) y G E (f4_at r x (t4 x) G hx (t4_at r x G hx)) hy g
theorem e54_at : (show EReal from e54 x y (ix2 r 0)) = rone G E :=
  f32_at r (e47 x y) (t32 (e47 x y)) (rexp G E) (e47_at r x y G E hx hy) (t32_at r (e47 x y) (rexp G E) (e47_at r x y G E hx hy))
theorem e59_at (g : Fin 32) : (show EReal from e59 x y (ix2 r g)) = rrest G E g :=
  w32_at r (e54 x y) (e47 x y) G E (e54_at r x y G E hx hy) (e47_at r x y G E hx hy) g
theorem e66_at : (show EReal from e66 x y (ix2 r 0)) = rtwo G E :=
  f32_at r (e59 x y) (t32 (e59 x y)) (rrest G E) (e59_at r x y G E hx hy) (t32_at r (e59 x y) (rrest G E) (e59_at r x y G E hx hy))
theorem e74_at : (show EReal from e74 x y (ix2 r 0)) = rv1 G E := by
  have h1 := t32_at r (e47 x y) (rexp G E) (e47_at r x y G E hx hy)
  have h2 := s32_at r (e47 x y) (t32 (e47 x y)) G E (e47_at r x y G E hx hy) h1
  exact (v32_at r _ _ _).trans (congrArg₂ (fun u s : EReal => Ideal.div (Ideal.exp (u - u)) s) h1 h2)
theorem e77_at : (show EReal from e77 x y (ix2 r 0)) = rv2 G E := by
  have h0 := t32_at r (e59 x y) (rrest G E) (e59_at r x y G E hx hy)
  have h1 := t32_at r (e47 x y) (rexp G E) (e47_at r x y G E hx hy)
  have h2 := s32_at r (e47 x y) (t32 (e47 x y)) G E (e47_at r x y G E hx hy) h1
  exact (v32_at r _ _ _).trans (congrArg₂ (fun u s : EReal => Ideal.div (Ideal.exp u) s) (congrArg₂ (fun u t : EReal => u - t) h0 h1) h2)

omit hx hy in
theorem share_at (g u v w : FVec Ideal S32768x1 .f32) :
    (show EReal from mulf g (Host.divf w (addf u v)) (ix2 r 0)) = g (ix2 r 0) * Ideal.div (w (ix2 r 0)) (u (ix2 r 0) + v (ix2 r 0)) := by
  pointwise

theorem e80_at : (show EReal from e80 x y (ix2 r 0)) = rw1 G E :=
  (share_at r _ _ _ _).trans (congrArg₂ (fun a b : EReal => a * b) (g4_at r x _ G hx (t4_at r x G hx))
    (congrArg₂ (fun a b : EReal => Ideal.div a (a + b)) (e74_at r x y G E hx hy) (e77_at r x y G E hx hy)))
theorem e83_at : (show EReal from e83 x y (ix2 r 0)) = rw2 G E :=
  (share_at r _ _ _ _).trans (congrArg₂ (fun a b : EReal => a * b) (g4_at r x _ G hx (t4_at r x G hx))
    (congrArg₂ (fun a b : EReal => Ideal.div b (a + b)) (e74_at r x y G E hx hy) (e77_at r x y G E hx hy)))
end

theorem lg4_glog (A : FVec Ideal S32768x1024 .bf16) (H : FVec Ideal S32768x1024 .f32) (W : FVec Ideal S1024x1024 .f32) (N : FVec Ideal S1024 .f32)
    (X : FVec Ideal S1024x4 .f32) (b : FVec Ideal S4 .f32) (g : Fin 4) :
    (show EReal from lg4 (Cert.OutRefIdeal.Value.norm (Cert.OutRefIdeal.Value.sum A H W) N) X b (ix2 r g)) = glog A H W N X b r g :=
  (lg4_at r _ X b g).trans (congrArg (· + (b (ix1 g) : EReal)) (Finset.sum_congr rfl fun k _ =>
    congrArg (· * (X (ix2 k g) : EReal)) (Cert.OutRefIdeal.Value.norm_sum_at A H W N r k)))
theorem lg32_elog (A : FVec Ideal S32768x1024 .bf16) (H : FVec Ideal S32768x1024 .f32) (W : FVec Ideal S1024x1024 .f32) (N : FVec Ideal S1024 .f32)
    (X : FVec Ideal S1024x32 .f32) (b : FVec Ideal S32 .f32) (g : Fin 32) :
    (show EReal from lg32 (Cert.OutRefIdeal.Value.norm (Cert.OutRefIdeal.Value.sum A H W) N) X b (ix2 r g)) = elog A H W N X b r g :=
  (lg32_at r _ X b g).trans (congrArg (· + (b (ix1 g) : EReal)) (Finset.sum_congr rfl fun k _ =>
    congrArg (· * (X (ix2 k g) : EReal)) (Cert.OutRefIdeal.Value.norm_sum_at A H W N r k)))

end Cert.RouteRefIdeal.Value

end
-- ==== Proof.RankState.lean ====
module

public import proofs.«01_k».proof.Proof.RouteFinal

/-! The ranks and counts the kernel keeps at a point: from the logits of the point before, and the counts it left. -/

@[expose] public section

set_option maxRecDepth 16384

noncomputable section

namespace Cert.RouteProof

open Cert.RouteIdeal Cert.RouteIdeal.Gen
open Idealize.ShloMosaic Idealize.ShloMosaic.TcCoe Idealize.SL.Sem

/-- The lanes of a row's first expert, and of its second. -/
abbrev isone (x : FVec Ideal S1x512x128 .f32) : IVec S512x128 1 := k0_pay34 (F := Ideal) k0_pay17 (k0_pay19 x) k0_pay22 k0_pay23 (k0_pay24 x) (FloatOps.ofBits FTy.f32 0x3E000000#32)
abbrev istwo (x : FVec Ideal S1x512x128 .f32) : IVec S512x128 1 := k0_pay35 (F := Ideal) k0_pay17 (k0_pay19 x) k0_pay22 k0_pay23 (k0_pay24 x) (FloatOps.ofBits FTy.f32 0x3E000000#32)
/-- What a point counts in each row's lanes. -/
abbrev picked (v : Ideal .f32) (x : FVec Ideal S1x512x128 .f32) : FVec Ideal S512x128 .f32 :=
  k0_pay36 v k0_pay17 (k0_pay19 x) k0_pay22 k0_pay23 (k0_pay24 x) (FloatOps.ofBits FTy.f32 0x3E000000#32)

variable (m : (ℓ : Loc nD τ sig) → Buf (Elt Ideal) ℓ)

/-- The counts after a point. -/
def tally (c : Dev nD) (n : ℕ) (hn : n < cfg0.N) : FVec Ideal S1x128 .f32 := (outsAt0 m c n hn).2.2.2.2.1

/-- What a point leaves: the routing, the counts it passes on and those it returns. -/
def Leaves (c : Dev nD) (t : Fin cfg0.N) (x : FVec Ideal S1x512x128 .f32) (n : FVec Ideal S1x128 .f32) : Prop :=
  ((outsAt0 m c t.val t.isLt).2.2.1 : FVec Ideal S512x128 .f32)
      = routed x (k0_pay38 (isone x) (picked (k0_pay3 (grid0.coords t)) x) (iblk m c 7 t) n) (k0_pay39 (istwo x) (picked (k0_pay3 (grid0.coords t)) x) (iblk m c 7 t) n)
    ∧ tally m c t.val t.isLt = k0_pay40 (picked (k0_pay3 (grid0.coords t)) x) n
    ∧ ((outsAt0 m c t.val t.isLt).2.2.2.1 : FVec Ideal S8x128 .f32) = k0_pay5 (k0_pay40 (picked (k0_pay3 (grid0.coords t)) x) n)

theorem leaves_C (c : Dev nD) (t : Fin cfg0.N) (h0 : ¬ t.val % 65 = 0) (h1 : t.val % 2 = 0) :
    Leaves m c t (halfOf (kept m c (t.val - 1) (Nat.lt_of_le_of_lt (Nat.sub_le _ _) t.isLt)) 1) (tally m c (t.val - 1) (Nat.lt_of_le_of_lt (Nat.sub_le _ _) t.isLt)) := by
  unfold Leaves kept tally
  have e := (Memref.isWhole_whole cc0_scratch1).read_unread (Val := Elt Ideal) (outsAt0 m c (t.val - 1) (Nat.lt_of_le_of_lt (Nat.sub_le _ _) t.isLt)).2.2.2.2.2
  have e' := (Memref.isWhole_whole cc0_scratch0).read_unread (Val := Elt Ideal) (outsAt0 m c (t.val - 1) (Nat.lt_of_le_of_lt (Nat.sub_le _ _) t.isLt)).2.2.2.2.1
  dsimp only [Memref.whole] at e e'
  rw [outsAt0_C m c t h0 h1 (by omega)]
  generalize (outsAt0 m c (t.val - 1) (Nat.lt_of_le_of_lt (Nat.sub_le _ _) t.isLt)).2.2.2.2.1 = N at e' ⊢
  refine ⟨?_, ?_, ?_⟩
  · frame_out
    rw [e, load_half _ 1 ![1, 0, 0] rfl, e']
  · frame_out
    rw [e, load_half _ 1 ![1, 0, 0] rfl, e']
  · frame_out
    rw [e, load_half _ 1 ![1, 0, 0] rfl, e']

theorem leaves_B (c : Dev nD) (t : Fin cfg0.N) (h0 : ¬ t.val % 65 = 0) (h1 : ¬ t.val % 2 = 0) :
    Leaves m c t (halfOf (kept m c (t.val - 1) (Nat.lt_of_le_of_lt (Nat.sub_le _ _) t.isLt)) 0) (tally m c (t.val - 1) (Nat.lt_of_le_of_lt (Nat.sub_le _ _) t.isLt)) := by
  unfold Leaves kept tally
  have e := (Memref.isWhole_whole cc0_scratch1).read_unread (Val := Elt Ideal) (outsAt0 m c (t.val - 1) (Nat.lt_of_le_of_lt (Nat.sub_le _ _) t.isLt)).2.2.2.2.2
  have e' := (Memref.isWhole_whole cc0_scratch0).read_unread (Val := Elt Ideal) (outsAt0 m c (t.val - 1) (Nat.lt_of_le_of_lt (Nat.sub_le _ _) t.isLt)).2.2.2.2.1
  dsimp only [Memref.whole] at e e'
  rw [outsAt0_B m c t h0 h1 (by omega)]
  generalize (outsAt0 m c (t.val - 1) (Nat.lt_of_le_of_lt (Nat.sub_le _ _) t.isLt)).2.2.2.2.1 = N at e' ⊢
  refine ⟨?_, ?_, ?_⟩
  · frame_out
    rw [e, load_half _ 0 ![0, 0, 0] rfl, e']
    generalize halfOf (outsAt0 m c (t.val - 1) _).2.2.2.2.2 0 = X
    rfl
  · frame_out
    rw [e, load_half _ 0 ![0, 0, 0] rfl, e']
    generalize halfOf (outsAt0 m c (t.val - 1) _).2.2.2.2.2 0 = X
    rfl
  · frame_out
    rw [e, load_half _ 0 ![0, 0, 0] rfl, e']
    generalize halfOf (outsAt0 m c (t.val - 1) _).2.2.2.2.2 0 = X
    rfl

theorem leaves_A (c : Dev nD) (t : Fin cfg0.N) (h0 : t.val % 65 = 0) :
    ∃ x, tally m c t.val t.isLt = k0_pay40 (picked (k0_pay3 (grid0.coords t)) x) (k0_pay1 (F := Ideal)) := by
  unfold tally
  have ht : t.val < 65 := t.isLt
  rw [outsAt0_A m c t h0 (by omega) (by omega)]
  frame_out
  exact ⟨_, rfl⟩

end Cert.RouteProof

end
-- ==== Proof.RankLanes.lean ====
module

public import proofs.«01_k».proof.Proof.RankState

/-! The ranks and counts of a point, lane by lane. -/

@[expose] public section

set_option maxRecDepth 16384

noncomputable section

namespace Cert.RouteProof

open Cert.RouteIdeal Cert.RouteIdeal.Gen
open Idealize.ShloMosaic Idealize.ShloMosaic.TcCoe Idealize.SL.Sem

theorem or_of (p q : Prop) [Decidable p] [Decidable q] : IntOp.ori (BitVec.ofBool (decide p)) (BitVec.ofBool (decide q)) = BitVec.ofBool (decide (p ∨ q)) := by
  by_cases hp : p <;> by_cases hq : q <;> simp [hp, hq, IntOp.ori]

theorem either_congr {a b b' d d' : EReal} {a' : EReal} [Decidable (a = b ∨ a = d)] (ha : a = a') (hb : b = b') (hd : d = d') (y z : EReal) :
    (if a = b ∨ a = d then y else z) = if a' = b' ∨ a' = d' then y else z := by
  subst ha hb hd
  by_cases h : a = b ∨ a = d
  · rw [if_pos h, if_pos h]
  · rw [if_neg h, if_neg h]

theorem ite_same {a a' b b' : EReal} [Decidable (a = b)] (ha : a = a') (hb : b = b') (y z : EReal) : (if a = b then y else z) = if a' = b' then y else z :=
  ite_congr' ha hb y rfl

variable (x : FVec Ideal S1x512x128 .f32) (r : Fin 512)

theorem picked_at (v : Ideal .f32) (l : Fin 128) :
    (show EReal from picked v x (ix2 r l)) = if num l = kone (row x r) ∨ num l = ktwo (row x r) then (show EReal from v) else 0 := by
  pointwise [picked, k0_pay36, k0_pay34, k0_pay35]
  rw [show IntOp.ori _ _ = _ from or_of _ _, select_of]
  exact either_congr (pay22_at r l) (pay27_at x r) (pay30_at x r) _ _

theorem before_at (M : FVec Ideal S512x128 .f32) (T : FVec Ideal S512x512 .bf16) (n : FVec Ideal S1x128 .f32) (l : Fin 128) :
    (show EReal from k0_pay37 (F := Ideal) M T n (ix2 r l)) = (∑ k : Fin 512, (T (ix2 r k) : EReal) * M (ix2 k l)) + n (ix2 0 l) := by
  pointwise [k0_pay37]

theorem rank1_at (M : FVec Ideal S512x128 .f32) (T : FVec Ideal S512x512 .bf16) (n : FVec Ideal S1x128 .f32) :
    (show EReal from k0_pay38 (F := Ideal) (isone x) M T n (ix2 r 0))
      = ∑ l : Fin 128, if num l = kone (row x r) then (∑ k : Fin 512, (T (ix2 r k) : EReal) * M (ix2 k l)) + n (ix2 0 l) else 0 := by
  pointwise [k0_pay38, isone, k0_pay34]
  refine Finset.sum_congr rfl fun l _ => ?_
  rw [show (k0_pay37 (F := Ideal) M T n (ix2 r l) : EReal) = _ from before_at r M T n l]
  exact Cert.RouteProof.ite_same (pay22_at r l) (pay27_at x r) _ _

theorem rank2_at (M : FVec Ideal S512x128 .f32) (T : FVec Ideal S512x512 .bf16) (n : FVec Ideal S1x128 .f32) :
    (show EReal from k0_pay39 (F := Ideal) (istwo x) M T n (ix2 r 0))
      = ∑ l : Fin 128, if num l = ktwo (row x r) then (∑ k : Fin 512, (T (ix2 r k) : EReal) * M (ix2 k l)) + n (ix2 0 l) else 0 := by
  pointwise [k0_pay39, istwo, k0_pay35]
  refine Finset.sum_congr rfl fun l _ => ?_
  rw [show (k0_pay37 (F := Ideal) M T n (ix2 r l) : EReal) = _ from before_at r M T n l]
  exact Cert.RouteProof.ite_same (pay22_at r l) (pay30_at x r) _ _

theorem tally_at (M : FVec Ideal S512x128 .f32) (n : FVec Ideal S1x128 .f32) (l : Fin 128) :
    (show EReal from k0_pay40 (F := Ideal) M n (ix2 0 l)) = n (ix2 0 l) + ∑ k : Fin 512, (M (ix2 k l) : EReal) := by
  pointwise [k0_pay40]

theorem none_at (l : Fin 128) : (show EReal from k0_pay1 (F := Ideal) (ix2 0 l)) = 0 := by
  pointwise [k0_pay1]

theorem spread_at (n : FVec Ideal S1x128 .f32) (q : Fin 8) (l : Fin 128) : (show EReal from k0_pay5 (F := Ideal) n (ix2 q l)) = n (ix2 0 l) := by
  pointwise [k0_pay5]

theorem routed_4 (a b : FVec Ideal S512x1 .f32) : (show EReal from routed x a b (ix2 r 4)) = a (ix2 r 0) := by
  pointwise [routed, k0_pay4, k0_pay41, k0_pay42, k0_pay43]
  rfl
theorem routed_5 (a b : FVec Ideal S512x1 .f32) : (show EReal from routed x a b (ix2 r 5)) = b (ix2 r 0) := by
  pointwise [routed, k0_pay4, k0_pay41, k0_pay42, k0_pay43]

theorem counted_at (t : Fin cfg0.N) : (show EReal from k0_pay3 (F := Ideal) (grid0.coords t)) = if t.val = 0 then 0 else 1 := by
  have key : ∀ t : Fin grid0.N, Scalar.cmpi .sgt (BitVec.ofNat 32 (grid0.coords t 0).val) 0#32 = BitVec.ofBool (decide (¬ t.val = 0)) := by decide +kernel
  show Scalar.select (Scalar.cmpi .sgt (BitVec.ofNat 32 (grid0.coords t 0).val) 0#32) (Ideal.ofBits .f32 0x3F800000#32) (Ideal.ofBits .f32 0x00000000#32) = _
  rw [key t, select_of, bits_one, show Ideal.ofBits .f32 0x00000000#32 = (0 : EReal) from Ideal.ofBits_zero_f32]
  by_cases h : t.val = 0
  · rw [if_neg (not_not_intro h), if_pos h]
  · rw [if_pos h, if_neg h]

end Cert.RouteProof

end
-- ==== Proof.RankSums.lean ====
module

public import proofs.«01_k».proof.Proof.RouteRows

/-! Counting rows: sums over the rows before one, in blocks of 512. -/

@[expose] public section

noncomputable section

namespace Cert.RouteProof

open Idealize.ShloMosaic

/-- The sum over the places below `r`, written over all of them. -/
theorem sum_below (f : ℕ → EReal) (n r : ℕ) (h : r ≤ n) : (∑ k : Fin n, if k.val < r then f k.val else 0) = ∑ k ∈ Finset.range r, f k := by
  rw [← Finset.sum_range (fun k => if k < r then f k else 0), ← Finset.sum_filter]
  refine Finset.sum_congr ?_ fun _ _ => rfl
  ext k
  simp only [Finset.mem_filter, Finset.mem_range]
  omega

/-- A block of rows more. -/
theorem sum_more (f : ℕ → EReal) (n k : ℕ) : (∑ j ∈ Finset.range n, f j) + (∑ i : Fin k, f (n + i.val)) = ∑ j ∈ Finset.range (n + k), f j := by
  rw [Finset.sum_range_add, ← Finset.sum_range (fun i => f (n + i))]

/-- A row's lane, picked from all. -/
theorem sum_pick (e : EReal) (x : Fin 32) (he : e = num x) (f : Fin 128 → EReal) : (∑ l : Fin 128, if num l = e then f l else 0) = f ⟨x.val, lane_lo x⟩ := by
  subst he
  rw [Finset.sum_eq_single ⟨x.val, lane_lo x⟩]
  · exact if_pos rfl
  · intro l _ hl
    exact if_neg fun h => hl (Fin.ext ((num_eq l x).1 h))
  · exact fun h => absurd (Finset.mem_univ _) h

theorem rone_num (G : Fin 4 → EReal) (E : Fin 32 → EReal) : ∃ x : Fin 32, rone G E = num x := by
  obtain ⟨x, h, hx⟩ := exists_first (rexp G E)
  exact ⟨x, first_eq _ _ x h hx (num_le_real x 32 le_rfl)⟩
theorem rtwo_num (G : Fin 4 → EReal) (E : Fin 32 → EReal) : ∃ x : Fin 32, rtwo G E = num x := by
  obtain ⟨x, h, hx⟩ := exists_first (rrest G E)
  exact ⟨x, first_eq _ _ x h hx (num_le_real x 32 le_rfl)⟩

/-- Whether row `n` chose expert `e`, as a number. -/
def chose (G : Fin 32768 → Fin 4 → EReal) (E : Fin 32768 → Fin 32 → EReal) (e : EReal) (n : ℕ) : EReal :=
  if h : n < 32768 then (if e = rone (G ⟨n, h⟩) (E ⟨n, h⟩) ∨ e = rtwo (G ⟨n, h⟩) (E ⟨n, h⟩) then 1 else 0) else 0

/-- How many of the first `n` rows chose expert `e`. -/
def upto (G : Fin 32768 → Fin 4 → EReal) (E : Fin 32768 → Fin 32 → EReal) (e : EReal) (n : ℕ) : EReal := ∑ j ∈ Finset.range n, chose G E e j

end Cert.RouteProof

end
-- ==== Proof.RankFinal.lean ====
module

public import proofs.«01_k».proof.Proof.RankLanes
public import proofs.«01_k».proof.Proof.RankSums

/-! What the routing leaves of ranks and counts, over finite arguments. -/

@[expose] public section

set_option maxRecDepth 16384

noncomputable section

namespace Cert.RouteProof

open Cert.RouteIdeal Cert.RouteIdeal.Gen
open Idealize.ShloMosaic Idealize.ShloMosaic.TcCoe Idealize.ShloMosaic.StableHlo Idealize.SL.Sem

theorem below_of (r k : Fin 512) : IntOp.cmpi CmpIPredicate.sge (IntOp.addi (BitVec.ofNat 32 r.val) 4294967295#32) (BitVec.ofNat 32 k.val) = BitVec.ofBool (decide (k.val < r.val)) := by
  have hr := r.isLt
  have hk := k.isLt
  have er : (IntOp.addi (BitVec.ofNat 32 r.val) 4294967295#32).toInt = (r.val : ℤ) - 1 := by
    show (BitVec.ofNat 32 r.val + 4294967295#32).toInt = _
    rw [BitVec.toInt_add, BitVec.toInt_ofNat', show (4294967295#32).toInt = -1 from rfl, Int.bmod_eq_of_le (n := (r.val : ℤ)) (by omega) (by omega)]
    rw [Int.bmod_eq_of_le (by omega) (by omega)]
    omega
  have ek : (BitVec.ofNat 32 k.val).toInt = (k.val : ℤ) := by
    rw [BitVec.toInt_ofNat', Int.bmod_eq_of_le (by omega) (by omega)]
  show BitVec.ofBool (BitVec.sle (BitVec.ofNat 32 k.val) (IntOp.addi (BitVec.ofNat 32 r.val) 4294967295#32)) = _
  refine congrArg BitVec.ofBool ?_
  rw [BitVec.sle_eq_decide, er, ek]
  exact decide_eq_decide.2 (by omega)

theorem cut_25 (X : FVec Ideal S32768x128 .f32) (r : Fin 32768) : (show EReal from extractStridedSlice S32768x1 ![0, 4] X slices_S32768x128_S32768x1_0_4 (ix2 r 0)) = X (ix2 r 4) := by
  pointwise
theorem cut_26 (X : FVec Ideal S32768x128 .f32) (r : Fin 32768) : (show EReal from extractStridedSlice S32768x1 ![0, 5] X slices_S32768x128_S32768x1_0_5 (ix2 r 0)) = X (ix2 r 5) := by
  pointwise
theorem cut_27 (X : FVec Ideal S8x128 .f32) (x : Fin 32) : (show EReal from extractStridedSlice S1x32 ![0, 0] X slices_S8x128_S1x32_0_0 (ix2 0 x)) = X (ix2 0 ⟨x.val, lane_lo x⟩) := by
  pointwise

variable (W : Valuation τ sig (Elt Ideal))

/-- The triangle of ones below the diagonal, as the kernel's call takes it. -/
abbrev triangle (o : FVec Ideal S512x512 .f32) : FVec Ideal S512x512 .bf16 :=
  truncf (F := Ideal) .bf16 (select (cmpi .sge (addi (iotaInDim S512x512 32 0) (broadcastInDim S512x512 ![] bcast_S_S512x512 (constantI S_ 32 4294967295#32))) (iotaInDim S512x512 32 1)) o
    (broadcastInDim S512x512 ![] bcast_S_S512x512 (constant S_ .f32 0x00000000#32))) bitsLt_bf16_f32

theorem read_v18 : StableHlo.after hostOps0_6 (StableHlo.after hostOps0_5 W) (Proc.devRef .tc main_v18) = triangle (W (Proc.devRef .tc main_v16)) := by
  have e : StableHlo.after hostOps0_6 (StableHlo.after hostOps0_5 W) (Proc.devRef .tc main_v18)
      = truncf (F := Ideal) .bf16 (StableHlo.after hostOps0_5 W (Proc.devRef .tc main_v17)) bitsLt_bf16_f32 := by
    generalize StableHlo.after hostOps0_5 W = W'
    entry_read
    try rfl
  rw [e]
  entry_read
  simp only [StableHlo.TRef.ofBuf_toBuf]
  generalize W (Proc.devRef .tc main_v16) = o
  refine congrArg (fun x : FVec Ideal S512x512 .f32 => truncf (F := Ideal) .bf16 x bitsLt_bf16_f32) ?_
  simp only [StableHlo.TRef.toBuf, StableHlo.TRef.ofBuf, cast_eq]

theorem read_v16 : StableHlo.after hostOps0_4 W (Proc.devRef .tc main_v16) = (broadcastInDim S512x512 ![] bcast_S_S512x512 (constant S_ .f32 0x3F800000#32) : FVec Ideal S512x512 .f32) := by
  entry_read
  try rfl

theorem triangle_at (r k : Fin 512) :
    (show EReal from triangle (broadcastInDim S512x512 ![] bcast_S_S512x512 (constant S_ .f32 0x3F800000#32)) (ix2 r k)) = if k.val < r.val then 1 else 0 := by
  pointwise [triangle]
  rw [below_of, select_of]

variable (m : (ℓ : Loc nD τ sig) → Buf (Elt Ideal) ℓ)

theorem tri_whole (c : Dev nD) (A : (b : Ref sig .tc) → Buf (Elt Ideal) ((c : Thread nD τ).loc b)) (t : Fin cfg0.N) (r : Fin 512) (k : Fin 512) :
    (((cfg0.win 7).blk t).view.read (Elt Ideal) (A (Pipeline.arrRef spec0 7)) : FVec Ideal S512x512 .bf16) (ix2 r k) = (A main_v18 : FVec Ideal S512x512 .bf16) (ix2 r k) := by
  have hix : win0_7.index t = ![0, 0] := (by decide +kernel : ∀ t : Fin grid0.N, win0_7.index t = ![0, 0]) t
  have e : (((cfg0.win 7).blk t).view.emb (ix2 r k : S512x512.Idx) : S512x512.Idx) = ix2 r k := by
    blk_ext [hix]
  refine Eq.trans (b := (A main_v18 : FVec Ideal S512x512 .bf16) (((cfg0.win 7).blk t).view.emb (ix2 r k : S512x512.Idx) : S512x512.Idx)) ?_ (congrArg (A main_v18 : FVec Ideal S512x512 .bf16) e)
  rfl

theorem tri_block (c : Dev nD) (t : Fin cfg0.N) (r k : Fin 512) : (show EReal from (iblk m c 7 t : FVec Ideal S512x512 .bf16) (ix2 r k)) = if k.val < r.val then 1 else 0 := by
  refine Eq.trans ?_ (triangle_at r k)
  unfold iblk
  refine (tri_whole c (V m c) t r k).trans ?_
  rw [split, read_v18, read_v16]

/-- The logits of the block of rows that a point scored. -/
abbrev scores (c : Dev nD) (u : Fin cfg0.N) : FVec Ideal S1x512x128 .f32 :=
  scored (iblk m c 1 u) (iblk m c 0 u) (iblk m c 2 u) (iblk m c 3 u) (iblk m c 4 u) (iblk m c 5 u) (iblk m c 6 u)

theorem leaves_at (c : Dev nD) (t u : Fin cfg0.N) (hu : u.val + 1 = t.val) : Leaves m c t (scores m c u) (tally m c u.val u.isLt) := by
  have ht : t.val < 65 := t.isLt
  have h0 : ¬ t.val % 65 = 0 := by omega
  have hn : tally m c (t.val - 1) (Nat.lt_of_le_of_lt (Nat.sub_le _ _) t.isLt) = tally m c u.val u.isLt := by
    have hk : ∀ (n : ℕ) (hn : n < cfg0.N), n = u.val → tally m c n hn = tally m c u.val u.isLt := by
      rintro n hn rfl
      rfl
    exact hk _ _ (by omega)
  have key : ∀ p : Fin 2, p.val = u.val % 2 → halfOf (kept m c (t.val - 1) (Nat.lt_of_le_of_lt (Nat.sub_le _ _) t.isLt)) p = scores m c u := by
    intro p hp
    have hk : ∀ (n : ℕ) (hn : n < cfg0.N), n = u.val → kept m c n hn = kept m c u.val u.isLt := by
      rintro n hn rfl
      rfl
    funext y
    obtain ⟨z, r, l, rfl⟩ : ∃ (z : Fin 1) (r : Fin 512) (l : Fin 128), y = (ix3 z r l : S1x512x128.Idx) := ⟨y (0 : Fin 3), y (1 : Fin 3), y (2 : Fin 3), eq_ix3 _⟩
    obtain rfl : z = 0 := Subsingleton.elim _ _
    rw [hk (t.val - 1) _ (by omega)]
    exact kept_eq m c u p hp r l
  rw [← hn]
  by_cases h1 : t.val % 2 = 0
  · rw [← key 1 (by show 1 = u.val % 2; omega)]
    exact leaves_C m c t h0 h1
  · rw [← key 0 (by show 0 = u.val % 2; omega)]
    exact leaves_B m c t h0 h1

section
variable (c : Dev nD) (h : Reals m c)
include h

theorem place_lt (u : ℕ) (r : Fin 512) (hu : u < 64) : 512 * u + r.val < 32768 := by
  have := r.isLt
  omega

/-- What a point counts of a row. -/
theorem member_at (t u : Fin cfg0.N) (hu : u.val + 1 = t.val) (r : Fin 512) (l : Fin 128) :
    (show EReal from picked (k0_pay3 (grid0.coords t)) (scores m c u) (ix2 r l)) = chose (lg m c) (le m c) (num l) (512 * u.val + r.val) := by
  have ht : t.val < 65 := t.isLt
  obtain ⟨hG, hE⟩ := lanes m c h u u.val (by omega) (by omega) r
  have hp : u.val * 512 + r.val = 512 * u.val + r.val := by omega
  simp only [hp] at hG hE
  refine (picked_at _ r _ l).trans ?_
  rw [show (k0_pay3 (F := Ideal) (grid0.coords t) : EReal) = _ from counted_at t, if_neg (show ¬ t.val = 0 by omega), kone_eq _ _ _ hG hE, ktwo_eq _ _ _ hG hE, chose,
    dif_pos (show 512 * u.val + r.val < 32768 by omega)]

/-- The counts a point passes on: of all rows before the block it scored. -/
theorem tally_upto (n : ℕ) (hn : n < cfg0.N) (l : Fin 128) : (show EReal from tally m c n hn (ix2 0 l)) = upto (lg m c) (le m c) (num l) (512 * n) := by
  induction n with
  | zero =>
    obtain ⟨x, e⟩ := leaves_A m c ⟨0, hn⟩ rfl
    rw [show tally m c 0 hn = _ from e]
    refine (tally_at _ _ l).trans ?_
    rw [show (k0_pay1 (F := Ideal) (ix2 0 l) : EReal) = 0 from none_at l, zero_add, upto, Finset.range_zero, Finset.sum_empty]
    refine Finset.sum_eq_zero fun k _ => (picked_at _ k _ l).trans ?_
    rw [show (k0_pay3 (F := Ideal) (grid0.coords ⟨0, hn⟩) : EReal) = _ from counted_at ⟨0, hn⟩, if_pos rfl, ite_self]
  | succ n ih =>
    have hn' : n < cfg0.N := Nat.lt_of_succ_lt hn
    rw [show tally m c (n + 1) hn = _ from (leaves_at m c ⟨n + 1, hn⟩ ⟨n, hn'⟩ rfl).2.1]
    refine (tally_at _ _ l).trans ?_
    rw [show (tally m c n hn' (ix2 0 l) : EReal) = _ from ih hn', show 512 * (n + 1) = 512 * n + 512 by omega, upto, upto, ← sum_more]
    exact congrArg _ (Finset.sum_congr rfl fun k _ => member_at m c h ⟨n + 1, hn⟩ ⟨n, hn'⟩ rfl k l)

/-- The count before a row, of a lane's expert. -/
theorem before_upto (t u : Fin cfg0.N) (hu : u.val + 1 = t.val) (r : Fin 512) (l : Fin 128) :
    (∑ k : Fin 512, (show EReal from (iblk m c 7 t : FVec Ideal S512x512 .bf16) (ix2 r k)) * (show EReal from picked (k0_pay3 (grid0.coords t)) (scores m c u) (ix2 k l)))
      + (show EReal from tally m c u.val u.isLt (ix2 0 l)) = upto (lg m c) (le m c) (num l) (512 * u.val + r.val) := by
  rw [tally_upto m c h u.val u.isLt l, add_comm]
  have e : ∀ k : Fin 512, (show EReal from (iblk m c 7 t : FVec Ideal S512x512 .bf16) (ix2 r k)) * (show EReal from picked (k0_pay3 (grid0.coords t)) (scores m c u) (ix2 k l))
      = if k.val < r.val then chose (lg m c) (le m c) (num l) (512 * u.val + k.val) else 0 := by
    intro k
    rw [tri_block m c t r k, member_at m c h t u hu k l]
    by_cases hk : k.val < r.val
    · rw [if_pos hk, if_pos hk, one_mul]
    · rw [if_neg hk, if_neg hk, zero_mul]
  rw [Finset.sum_congr rfl fun k _ => e k, sum_below (fun k => chose (lg m c) (le m c) (num l) (512 * u.val + k)) 512 r.val r.isLt.le, upto, upto, Finset.sum_range_add]

/-- What lane 4 and lane 5 of the routing's array are to hold: how many earlier rows chose the row's expert. -/
def rank1 (r : Fin 32768) : EReal := upto (lg m c) (le m c) (rone (lg m c r) (le m c r)) r.val
/-- The same for the row's second expert. -/
def rank2 (r : Fin 32768) : EReal := upto (lg m c) (le m c) (rtwo (lg m c r) (le m c r)) r.val

/-- A lane's count before a row, picked at an expert's lane. -/
theorem picked_rank (t u : Fin cfg0.N) (hu : u.val + 1 = t.val) (r : Fin 512) (e : EReal) (x : Fin 32) (hx : e = num x) :
    (∑ l : Fin 128, if num l = e then
        (∑ k : Fin 512, (show EReal from (iblk m c 7 t : FVec Ideal S512x512 .bf16) (ix2 r k)) * (show EReal from picked (k0_pay3 (grid0.coords t)) (scores m c u) (ix2 k l)))
          + (show EReal from tally m c u.val u.isLt (ix2 0 l)) else 0)
      = upto (lg m c) (le m c) e (512 * u.val + r.val) := by
  refine (sum_pick e x hx _).trans ?_
  refine (before_upto m c h t u hu r ⟨x.val, lane_lo x⟩).trans ?_
  rw [hx]

theorem point45 (t u : Fin cfg0.N) (hu : u.val + 1 = t.val) (r : Fin 512) (hu64 : u.val < 64) (R : Fin 32768) (hR : R.val = u.val * 512 + r.val) :
    (show EReal from ((outsAt0 m c t.val t.isLt).2.2.1 : FVec Ideal S512x128 .f32) (ix2 r 4)) = rank1 m c R
    ∧ (show EReal from ((outsAt0 m c t.val t.isLt).2.2.1 : FVec Ideal S512x128 .f32) (ix2 r 5)) = rank2 m c R := by
  have ht : t.val < 65 := t.isLt
  obtain ⟨hG, hE⟩ := lanes m c h u u.val (by omega) (by omega) r
  have hp : R = ⟨u.val * 512 + r.val, by omega⟩ := Fin.ext hR
  have hn : R.val = 512 * u.val + r.val := by omega
  rw [← hp] at hG hE
  have h1 := kone_eq _ _ _ hG hE
  have h2 := ktwo_eq _ _ _ hG hE
  obtain ⟨x1, hx1⟩ := rone_num (lg m c R) (le m c R)
  obtain ⟨x2, hx2⟩ := rtwo_num (lg m c R) (le m c R)
  have e := (leaves_at m c t u hu).1
  rw [e, rank1, rank2, hn]
  refine ⟨(routed_4 _ r _ _).trans ((rank1_at _ r _ _ _).trans ?_), (routed_5 _ r _ _).trans ((rank2_at _ r _ _ _).trans ?_)⟩
  · rw [h1]
    exact picked_rank m c h t u hu r _ x1 hx1
  · rw [h2]
    exact picked_rank m c h t u hu r _ x2 hx2

/-- The routing's array in lanes 4 and 5. -/
theorem final45 (i : S32768x128.Idx) : ((i 1).val = 4 → ((dats m 0 c).arrAt 10 (cfgs 0).N : FVec Ideal S32768x128 .f32) i = rank1 m c (i 0))
    ∧ ((i 1).val = 5 → ((dats m 0 c).arrAt 10 (cfgs 0).N : FVec Ideal S32768x128 .f32) i = rank2 m c (i 0)) := by
  refine (dats m 0 c).arrAt_forall_of_covers 10 (fun (i : S32768x128.Idx) (v : EReal) => ((i 1).val = 4 → v = rank1 m c (i 0)) ∧ ((i 1).val = 5 → v = rank2 m c (i 0))) (by decide +kernel) (fun t hf y => ?_) i
  blk_simp
  rw [after0_10]
  have ht1 : 1 ≤ t.val := (by decide +kernel : ∀ t : Fin grid0.N, win0_10.flush t = true → 1 ≤ t.val) t hf
  have ht : t.val < 65 := t.isLt
  have hix : win0_10.index t = ![t.val - 1, 0] := (by decide +kernel : ∀ t : Fin grid0.N, win0_10.index t = ![t.val - 1, 0]) t
  obtain ⟨r, l, rfl⟩ : ∃ (r : Fin 512) (l : Fin 128), y = (ix2 r l : S512x128.Idx) := ⟨y (0 : Fin 2), y (1 : Fin 2), eq_ix2 _⟩
  have he : (((cfg0.win 10).blk t).view.emb (ix2 r l : S512x128.Idx) : S32768x128.Idx) = ix2 ⟨(t.val - 1) * 512 + r.val, by omega⟩ l := by
    blk_ext [hix]
  rw [he]
  have h1 : win0_10.index t 1 = 0 := by rw [hix]; rfl
  rw [h1]
  obtain ⟨p4, p5⟩ := point45 m c h t ⟨t.val - 1, by show t.val - 1 < 65; omega⟩ (by show t.val - 1 + 1 = t.val; omega) r (by show t.val - 1 < 64; omega) ⟨(t.val - 1) * 512 + r.val, by omega⟩ rfl
  refine ⟨fun hl => ?_, fun hl => ?_⟩
  · obtain rfl : l = 4 := Fin.ext (by
      have : 0 * 128 + l.val = 4 := hl
      show l.val = 4
      omega)
    exact p4
  · obtain rfl : l = 5 := Fin.ext (by
      have : 0 * 128 + l.val = 5 := hl
      show l.val = 5
      omega)
    exact p5

/-- The counts' array. -/
theorem final11 (i : S8x128.Idx) : ((dats m 0 c).arrAt 11 (cfgs 0).N : FVec Ideal S8x128 .f32) i = upto (lg m c) (le m c) (num (i 1 : Fin 128)) 32768 := by
  refine (dats m 0 c).arrAt_forall_of_covers 11 (fun (i : S8x128.Idx) (v : EReal) => v = upto (lg m c) (le m c) (num (i 1 : Fin 128)) 32768) (by decide +kernel) (fun t hf y => ?_) i
  blk_simp
  rw [after0_11]
  have ht1 : t.val = 64 := (by decide +kernel : ∀ t : Fin grid0.N, win0_11.flush t = true → t.val = 64) t hf
  have hix : win0_11.index t = ![0, 0] := (by decide +kernel : ∀ t : Fin grid0.N, win0_11.index t = ![0, 0]) t
  obtain ⟨q, l, rfl⟩ : ∃ (q : Fin 8) (l : Fin 128), y = (ix2 q l : S8x128.Idx) := ⟨y (0 : Fin 2), y (1 : Fin 2), eq_ix2 _⟩
  have he : (((cfg0.win 11).blk t).view.emb (ix2 q l : S8x128.Idx) : S8x128.Idx) = ix2 q l := by
    blk_ext [hix]
  rw [he]
  obtain ⟨_, e1, e2⟩ := leaves_at m c t ⟨63, by decide⟩ (by show 63 + 1 = t.val; omega)
  rw [e2, ← e1]
  refine (spread_at _ q l).trans ((tally_upto m c h t.val t.isLt l).trans ?_)
  exact congrArg (upto (lg m c) (le m c) (num l)) (show 512 * t.val = 32768 by omega)

theorem tail_25 (r : Fin 32768) : (show EReal from (Pipeline.afterTail₀ cfgs (dats m) 0 (V0 m) [hostOps1] c main_v25 : FVec Ideal S32768x1 .f32) (ix2 r 0)) = rank1 m c r := by
  refine Eq.trans ?_ ((final45 m c h (ix2 r 4)).1 rfl)
  unfold Pipeline.afterTail₀
  simp only [hostOps1, List.flatten_cons, List.flatten_nil, List.append_nil, List.cons_append, List.nil_append]
  have ew := Pipeline.withArrays_arr spec0 (by decide) c (V0 m c) (fun w => (dats m 0 c).arrAt w (cfgs 0).N) 10
  generalize Pipeline.withArrays spec0 c (V0 m c) (fun w => (dats m 0 c).arrAt w (cfgs 0).N) = W at ew ⊢
  entry_read
  rw [← ew]
  exact cut_25 (W (Proc.devRef .tc main_v20_2)) r

theorem tail_26 (r : Fin 32768) : (show EReal from (Pipeline.afterTail₀ cfgs (dats m) 0 (V0 m) [hostOps1] c main_v26 : FVec Ideal S32768x1 .f32) (ix2 r 0)) = rank2 m c r := by
  refine Eq.trans ?_ ((final45 m c h (ix2 r 5)).2 rfl)
  unfold Pipeline.afterTail₀
  simp only [hostOps1, List.flatten_cons, List.flatten_nil, List.append_nil, List.cons_append, List.nil_append]
  have ew := Pipeline.withArrays_arr spec0 (by decide) c (V0 m c) (fun w => (dats m 0 c).arrAt w (cfgs 0).N) 10
  generalize Pipeline.withArrays spec0 c (V0 m c) (fun w => (dats m 0 c).arrAt w (cfgs 0).N) = W at ew ⊢
  entry_read
  rw [← ew]
  exact cut_26 (W (Proc.devRef .tc main_v20_2)) r

theorem tail_27 (x : Fin 32) : (show EReal from (Pipeline.afterTail₀ cfgs (dats m) 0 (V0 m) [hostOps1] c main_v27 : FVec Ideal S1x32 .f32) (ix2 0 x)) = upto (lg m c) (le m c) (num x) 32768 := by
  refine Eq.trans ?_ (final11 m c h (ix2 0 ⟨x.val, lane_lo x⟩))
  unfold Pipeline.afterTail₀
  simp only [hostOps1, List.flatten_cons, List.flatten_nil, List.append_nil, List.cons_append, List.nil_append]
  have ew := Pipeline.withArrays_arr spec0 (by decide) c (V0 m c) (fun w => (dats m 0 c).arrAt w (cfgs 0).N) 11
  generalize Pipeline.withArrays spec0 c (V0 m c) (fun w => (dats m 0 c).arrAt w (cfgs 0).N) = W at ew ⊢
  entry_read
  rw [← ew]
  exact cut_27 (W (Proc.devRef .tc main_v20_3)) x

end

end Cert.RouteProof

end
-- ==== Proof.RankRef.lean ====
module

public import proofs.«01_k».proof.Proof.RouteRef
public import proofs.«01_k».proof.Proof.RankFinal

/-! The reference's ranks and counts, read row by row. -/

@[expose] public section

set_option maxRecDepth 16384

noncomputable section

namespace Cert.RouteRefIdeal.Value

open Cert.RouteRefIdeal Cert.RouteRefIdeal.Gen Cert.RouteProof
open Idealize.ShloMosaic Idealize.ShloMosaic.TcCoe Idealize.SL.Sem

/-- Whether a column's row stands before a row. -/
abbrev earlier : IVec S32768x32768 1 :=
  cmpi .slt (broadcastInDim S32768x32768 ![0, 1] bcast_S1x32768_S32768x32768_0_1 (broadcastInDim S1x32768 ![1] bcast_S32768_S1x32768_1 (iotaInDim S32768 32 0)))
    (broadcastInDim S32768x32768 ![0, 1] bcast_S32768x1_S32768x32768_0_1 (broadcastInDim S32768x1 ![0] bcast_S32768_S32768x1_0 (iotaInDim S32768 32 0)))

/-- Whether a column's row chose a row's expert, as `p` or as `q`. -/
abbrev among (p q z : FVec Ideal S32768x1 .f32) : IVec S32768x32768 1 :=
  ori (cmpf .oeq (broadcastInDim S32768x32768 ![0, 1] bcast_S1x32768_S32768x32768_0_1 (shapeCast S1x32768 p shapeCasts_S32768x1_S1x32768)) (broadcastInDim S32768x32768 ![0, 1] bcast_S32768x1_S32768x32768_0_1 z))
    (cmpf .oeq (broadcastInDim S32768x32768 ![0, 1] bcast_S1x32768_S32768x32768_0_1 (shapeCast S1x32768 q shapeCasts_S32768x1_S1x32768)) (broadcastInDim S32768x32768 ![0, 1] bcast_S32768x1_S32768x32768_0_1 z))

/-- A row's rank for the expert `z`. -/
abbrev ranks (p q z : FVec Ideal S32768x1 .f32) : FVec Ideal S32768x1 .f32 :=
  broadcastInDim S32768x1 ![0] bcast_S32768_S32768x1_0 (Host.reduceAdd (select (andi earlier (among p q z)) (broadcastInDim S32768x32768 ![] bcast_S_S32768x32768 (constant S_ .f32 0x3F800000#32))
    (broadcastInDim S32768x32768 ![] bcast_S_S32768x32768 (constant S_ .f32 0x00000000#32))) (constant S_ .f32 0x00000000#32) reducesTo_S32768x32768_S32768_d1 h_S_)

/-- The experts' counts. -/
abbrev counts (p q : FVec Ideal S32768x1 .f32) : FVec Ideal S1x32 .f32 :=
  broadcastInDim S1x32 ![1] bcast_S32_S1x32_1 (Host.reduceAdd (select (ori
      (cmpf .oeq (broadcastInDim S32768x32 ![0, 1] bcast_S32768x1_S32768x32_0_1 p) (broadcastInDim S32768x32 ![0, 1] bcast_S1x32_S32768x32_0_1 (broadcastInDim S1x32 ![1] bcast_S32_S1x32_1 n32)))
      (cmpf .oeq (broadcastInDim S32768x32 ![0, 1] bcast_S32768x1_S32768x32_0_1 q) (broadcastInDim S32768x32 ![0, 1] bcast_S1x32_S32768x32_0_1 (broadcastInDim S1x32 ![1] bcast_S32_S1x32_1 n32))))
    (broadcastInDim S32768x32 ![] bcast_S_S32768x32 (constant S_ .f32 0x3F800000#32)) (broadcastInDim S32768x32 ![] bcast_S_S32768x32 (constant S_ .f32 0x00000000#32)))
    (constant S_ .f32 0x00000000#32) reducesTo_S32768x32_S32_d0 h_S_)

theorem before_of (u r : Fin 32768) : IntOp.cmpi CmpIPredicate.slt (BitVec.ofNat 32 u.val) (BitVec.ofNat 32 r.val) = BitVec.ofBool (decide (u.val < r.val)) := by
  have hu := u.isLt
  have hr := r.isLt
  have eu : (BitVec.ofNat 32 u.val).toInt = (u.val : ℤ) := by
    rw [BitVec.toInt_ofNat', Int.bmod_eq_of_le (by omega) (by omega)]
  have er : (BitVec.ofNat 32 r.val).toInt = (r.val : ℤ) := by
    rw [BitVec.toInt_ofNat', Int.bmod_eq_of_le (by omega) (by omega)]
  show BitVec.ofBool (BitVec.slt (BitVec.ofNat 32 u.val) (BitVec.ofNat 32 r.val)) = _
  refine congrArg BitVec.ofBool ?_
  rw [BitVec.slt_eq_decide, eu, er]
  exact decide_eq_decide.2 (by omega)

theorem ranks_at (p q z : FVec Ideal S32768x1 .f32) (r : Fin 32768) :
    (show EReal from ranks p q z (ix2 r 0)) = ∑ u : Fin 32768, if u.val < r.val ∧ ((p (ix2 u 0) : EReal) = z (ix2 r 0) ∨ (q (ix2 u 0) : EReal) = z (ix2 r 0)) then 1 else 0 := by
  pointwise [ranks, earlier, among]
  refine Finset.sum_congr rfl fun u _ => ?_
  rw [before_of, or_of, and_of, select_of]

theorem counts_at (p q : FVec Ideal S32768x1 .f32) (x : Fin 32) :
    (show EReal from counts p q (ix2 0 x)) = ∑ u : Fin 32768, if (p (ix2 u 0) : EReal) = num x ∨ (q (ix2 u 0) : EReal) = num x then 1 else 0 := by
  pointwise [counts, n32]
  refine Finset.sum_congr rfl fun u _ => ?_
  rw [show FloatOps.sitofp (F := Ideal) FTy.f32 (BitVec.ofNat 32 x.val) = num x from lane_num x (by decide), or_of, select_of]

variable (G : Fin 32768 → Fin 4 → EReal) (E : Fin 32768 → Fin 32 → EReal)

theorem ranks_upto (p q z : FVec Ideal S32768x1 .f32) (hp : ∀ u, (p (ix2 u 0) : EReal) = rone (G u) (E u)) (hq : ∀ u, (q (ix2 u 0) : EReal) = rtwo (G u) (E u)) (r : Fin 32768) :
    (show EReal from ranks p q z (ix2 r 0)) = upto G E (z (ix2 r 0)) r.val := by
  refine (ranks_at p q z r).trans (Eq.trans (Finset.sum_congr rfl fun u _ => ?_) (sum_below (chose G E (z (ix2 r 0))) 32768 r.val r.isLt.le))
  rw [hp u, hq u, chose, dif_pos u.isLt]
  by_cases hu : u.val < r.val
  · rw [if_pos hu]
    exact if_congr ⟨fun h => h.2.imp Eq.symm Eq.symm, fun h => ⟨hu, h.imp Eq.symm Eq.symm⟩⟩ rfl rfl
  · rw [if_neg hu]
    exact if_neg fun h => hu h.1

theorem counts_upto (p q : FVec Ideal S32768x1 .f32) (hp : ∀ u, (p (ix2 u 0) : EReal) = rone (G u) (E u)) (hq : ∀ u, (q (ix2 u 0) : EReal) = rtwo (G u) (E u)) (x : Fin 32) :
    (show EReal from counts p q (ix2 0 x)) = upto G E (num x) 32768 := by
  refine (counts_at p q x).trans (Eq.trans (Finset.sum_congr rfl fun u _ => ?_) (Finset.sum_range (chose G E (num x))).symm)
  rw [hp u, hq u, chose, dif_pos u.isLt]
  exact if_congr ⟨fun h => h.imp Eq.symm Eq.symm, fun h => h.imp Eq.symm Eq.symm⟩ rfl rfl

section
variable (x : FVec Ideal S32768x4 .f32) (y : FVec Ideal S32768x32 .f32)

abbrev e116 : FVec Ideal S32768x1 .f32 := ranks (e54 x y) (e66 x y) (e54 x y)
abbrev e130 : FVec Ideal S32768x1 .f32 := ranks (e54 x y) (e66 x y) (e66 x y)
abbrev e96 : FVec Ideal S1x32 .f32 := counts (e54 x y) (e66 x y)

variable (hx : ∀ r g, (x (ix2 r g) : EReal) = G r g) (hy : ∀ r g, (y (ix2 r g) : EReal) = E r g)
include hx hy

theorem e116_at (r : Fin 32768) : (show EReal from e116 x y (ix2 r 0)) = upto G E (rone (G r) (E r)) r.val := by
  refine (ranks_upto G E (e54 x y) (e66 x y) (e54 x y) (fun u => e54_at u x y _ _ (hx u) (hy u)) (fun u => e66_at u x y _ _ (hx u) (hy u)) r).trans ?_
  exact congrArg (fun e : EReal => upto G E e r.val) (e54_at r x y _ _ (hx r) (hy r))

theorem e130_at (r : Fin 32768) : (show EReal from e130 x y (ix2 r 0)) = upto G E (rtwo (G r) (E r)) r.val := by
  refine (ranks_upto G E (e54 x y) (e66 x y) (e66 x y) (fun u => e54_at u x y _ _ (hx u) (hy u)) (fun u => e66_at u x y _ _ (hx u) (hy u)) r).trans ?_
  exact congrArg (fun e : EReal => upto G E e r.val) (e66_at r x y _ _ (hx r) (hy r))

theorem e96_at (l : Fin 32) : (show EReal from e96 x y (ix2 0 l)) = upto G E (num l) 32768 :=
  counts_upto G E (e54 x y) (e66 x y) (fun u => e54_at u x y _ _ (hx u) (hy u)) (fun u => e66_at u x y _ _ (hx u) (hy u)) l
end

end Cert.RouteRefIdeal.Value

end
-- ==== Proof.RouteClaims.lean ====
/- The certificate's conjuncts about the routing: the frames of the kernel (both readings of its text) and of its reference,
   and the equality of the seven results over finite arguments. -/
module

public import proofs.«01_k».proof.Defs
public import proofs.«01_k».proof.Proof.RankRef
public import proofs.«01_k».proof.Proof.Gen.Route.Frame
public import proofs.«01_k».proof.Proof.Gen.RouteRefIdeal.Run
public import Idealize.ShloMosaic.Lib.Claim

@[expose] public section

set_option maxRecDepth 16384

noncomputable section

namespace Cert.RouteProof

open Idealize.ShloMosaic Idealize.ShloMosaic.TcCoe Idealize.SL.Sem
open Cert.RouteRefIdeal.Value (lg4 lg32 e54 e66 e80 e83 e96 e116 e130 lg4_glog lg32_elog e54_at e66_at e80_at e83_at e96_at e116_at e130_at)

/-- The shape relations the precondition states. -/
theorem pre_facts : Cert.Pre_all_finite.Facts where
  bcast_S_S32768x1024 := by decide
  bcast_S_S1024x1024 := by decide
  bcast_S_S1024 := by decide
  bcast_S_S1024x4 := by decide
  bcast_S_S4 := by decide
  bcast_S_S1024x32 := by decide
  bcast_S_S32 := by decide

attribute [local instance] Cert.Route.Gen.facts Cert.RouteIdeal.Gen.facts Cert.RouteRefIdeal.Gen.facts pre_facts

theorem frame_ideal : Cert.quiescent_RouteIdeal := fun m g _ => Cert.RouteIdeal.Gen.frame m g

theorem frame_ideal_pre : Cert.quiescent_RouteIdeal_pre_all_finite := fun m g _ => Cert.RouteIdeal.Gen.frame m g

theorem frame_bits : Cert.quiescent_Route := fun m g _ => Cert.Route.Gen.frame m g

theorem frame_ref : Cert.quiescent_RouteRefIdeal := fun m g _ =>
  (θ_run Cert.RouteRefIdeal.defs _ _).mono (fun r h => ⟨fun c => (h c).2.2.2.2.2.2.2, sem_eq_zero_of_no_sems (by decide) r.2⟩)
    (Cert.RouteRefIdeal.Value.run (F := Ideal) m g)

theorem frame_ref_pre : Cert.quiescent_RouteRefIdeal_pre_all_finite := fun m g _ => frame_ref m g trivial

/-- A number whose absolute value is below infinity is real. -/
theorem real_of {x : EReal} (h : Ideal.cmp .olt (max x (-x)) ⊤ = 1#1) : IsReal x := by
  induction x with
  | bot => exact absurd h (by simp [Ideal.cmp])
  | top => exact absurd h (by simp [Ideal.cmp])
  | coe r => exact ⟨r, rfl⟩

theorem bits_top16 : Ideal.ofBits .bf16 0x7F80#16 = (⊤ : EReal) := by
  simp [Ideal.ofBits, Ideal.ieee]

/-- What the precondition says of one argument. -/
theorem reals_of {s : Shape} (x : FVec Ideal s .f32) (hb : Cert.Pre_all_finite.S_.BroadcastsInDim s (![] : Fin 0 → Fin s.rank))
    (h : cmpf .olt (Host.absf x) (broadcastInDim s ![] hb (constant Cert.Pre_all_finite.S_ .f32 0x7F800000#32)) = fun _ => 1#1) (i : s.Idx) : IsReal (x i) := by
  have e : Ideal.cmp .olt (max (x i : EReal) (-(x i : EReal))) (Ideal.ofBits .f32 0x7F800000#32) = 1#1 := congrFun h i
  rw [bits_top] at e
  exact real_of e
theorem reals_of16 {s : Shape} (x : FVec Ideal s .bf16) (hb : Cert.Pre_all_finite.S_.BroadcastsInDim s (![] : Fin 0 → Fin s.rank))
    (h : cmpf .olt (Host.absf x) (broadcastInDim s ![] hb (constant Cert.Pre_all_finite.S_ .bf16 0x7F80#16)) = fun _ => 1#1) (i : s.Idx) : IsReal (x i) := by
  have e : Ideal.cmp .olt (max (x i : EReal) (-(x i : EReal))) (Ideal.ofBits .bf16 0x7F80#16) = 1#1 := congrFun h i
  rw [bits_top16] at e
  exact real_of e

theorem reals (m : (ℓ : Loc Cert.RouteIdeal.nD Cert.RouteIdeal.τ Cert.RouteIdeal.sig) → Buf (Elt Ideal) ℓ) (h : Cert.Pre_RouteIdeal_all_finite m) (c : Dev Cert.RouteIdeal.nD) : Reals m c := by
  obtain ⟨h0, h1, h2, h3, h4, h5, h6, h7⟩ := h c
  exact ⟨fun r k => reals_of16 _ _ h0 _, fun r k => reals_of _ _ h1 _, fun k d => reals_of _ _ h2 _, fun k => reals_of _ _ h3 _, fun k g => reals_of _ _ h4 _,
    fun g => reals_of _ _ h5 _, fun k x => reals_of _ _ h6 _, fun x => reals_of _ _ h7 _⟩

/-- What the experts' and the weights' columns are to hold. -/
def R4 (m : (ℓ : Loc Cert.RouteIdeal.nD Cert.RouteIdeal.τ Cert.RouteIdeal.sig) → Buf (Elt Ideal) ℓ) (c : Dev Cert.RouteIdeal.nD) (k : ℕ) : FVec Ideal Cert.RouteIdeal.S32768x1 .f32 := fun i => lane4 m c (i 0) k

/-- What the ranks' columns are to hold. -/
def R5 (m : (ℓ : Loc Cert.RouteIdeal.nD Cert.RouteIdeal.τ Cert.RouteIdeal.sig) → Buf (Elt Ideal) ℓ) (c : Dev Cert.RouteIdeal.nD) : FVec Ideal Cert.RouteIdeal.S32768x1 .f32 := fun i => rank1 m c (i 0)
def R6 (m : (ℓ : Loc Cert.RouteIdeal.nD Cert.RouteIdeal.τ Cert.RouteIdeal.sig) → Buf (Elt Ideal) ℓ) (c : Dev Cert.RouteIdeal.nD) : FVec Ideal Cert.RouteIdeal.S32768x1 .f32 := fun i => rank2 m c (i 0)
/-- What the counts' row is to hold. -/
def R7 (m : (ℓ : Loc Cert.RouteIdeal.nD Cert.RouteIdeal.τ Cert.RouteIdeal.sig) → Buf (Elt Ideal) ℓ) (c : Dev Cert.RouteIdeal.nD) : FVec Ideal Cert.RouteIdeal.S1x32 .f32 := fun i => upto (lg m c) (le m c) (num (i 1 : Fin 32)) 32768

theorem ext_row (x y : FVec Ideal Cert.RouteIdeal.S1x32 .f32) (h : ∀ l : Fin 32, (show EReal from x (ix2 0 l)) = y (ix2 0 l)) : x = y := by
  funext i
  obtain ⟨z, l, rfl⟩ : ∃ (z : Fin 1) (l : Fin 32), i = (ix2 z l : Cert.RouteIdeal.S1x32.Idx) := ⟨i (0 : Fin 2), i (1 : Fin 2), eq_ix2 _⟩
  obtain rfl : z = 0 := Subsingleton.elim _ _
  exact h l

theorem ext_col (x y : FVec Ideal Cert.RouteIdeal.S32768x1 .f32) (h : ∀ r : Fin 32768, (show EReal from x (ix2 r 0)) = y (ix2 r 0)) : x = y := by
  funext i
  obtain ⟨r, z, rfl⟩ : ∃ (r : Fin 32768) (z : Fin 1), i = (ix2 r z : Cert.RouteIdeal.S32768x1.Idx) := ⟨i (0 : Fin 2), i (1 : Fin 2), eq_ix2 _⟩
  obtain rfl : z = 0 := Subsingleton.elim _ _
  exact h r

/-! The reference's seven results on the kernel's arguments. -/

section
variable (m : (ℓ : Loc Cert.RouteIdeal.nD Cert.RouteIdeal.τ Cert.RouteIdeal.sig) → Buf (Elt Ideal) ℓ) (c : Dev Cert.RouteIdeal.nD)

theorem ref_e54 : e54
      (lg4 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg4)) (m ((c.tc : Thread Cert.RouteIdeal.nD Cert.RouteIdeal.τ).loc Cert.RouteIdeal.main_arg5)))
      (lg32 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg6)) (m ((c.tc : Thread Cert.RouteIdeal.nD Cert.RouteIdeal.τ).loc Cert.RouteIdeal.main_arg7))) = R4 m c 0 :=
  ext_col _ _ fun r => e54_at r _ _ (lg m c r) (le m c r) (fun g => lg4_glog r _ _ _ _ _ _ g) (fun x => lg32_elog r _ _ _ _ _ _ x)
theorem ref_e66 : e66
      (lg4 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg4)) (m ((c.tc : Thread Cert.RouteIdeal.nD Cert.RouteIdeal.τ).loc Cert.RouteIdeal.main_arg5)))
      (lg32 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg6)) (m ((c.tc : Thread Cert.RouteIdeal.nD Cert.RouteIdeal.τ).loc Cert.RouteIdeal.main_arg7))) = R4 m c 1 :=
  ext_col _ _ fun r => e66_at r _ _ (lg m c r) (le m c r) (fun g => lg4_glog r _ _ _ _ _ _ g) (fun x => lg32_elog r _ _ _ _ _ _ x)
theorem ref_e80 : e80
      (lg4 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg4)) (m ((c.tc : Thread Cert.RouteIdeal.nD Cert.RouteIdeal.τ).loc Cert.RouteIdeal.main_arg5)))
      (lg32 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg6)) (m ((c.tc : Thread Cert.RouteIdeal.nD Cert.RouteIdeal.τ).loc Cert.RouteIdeal.main_arg7))) = R4 m c 2 :=
  ext_col _ _ fun r => e80_at r _ _ (lg m c r) (le m c r) (fun g => lg4_glog r _ _ _ _ _ _ g) (fun x => lg32_elog r _ _ _ _ _ _ x)
theorem ref_e83 : e83
      (lg4 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg4)) (m ((c.tc : Thread Cert.RouteIdeal.nD Cert.RouteIdeal.τ).loc Cert.RouteIdeal.main_arg5)))
      (lg32 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg6)) (m ((c.tc : Thread Cert.RouteIdeal.nD Cert.RouteIdeal.τ).loc Cert.RouteIdeal.main_arg7))) = R4 m c 3 :=
  ext_col _ _ fun r => e83_at r _ _ (lg m c r) (le m c r) (fun g => lg4_glog r _ _ _ _ _ _ g) (fun x => lg32_elog r _ _ _ _ _ _ x)
theorem ref_e116 : e116
      (lg4 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg4)) (m ((c.tc : Thread Cert.RouteIdeal.nD Cert.RouteIdeal.τ).loc Cert.RouteIdeal.main_arg5)))
      (lg32 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg6)) (m ((c.tc : Thread Cert.RouteIdeal.nD Cert.RouteIdeal.τ).loc Cert.RouteIdeal.main_arg7))) = R5 m c :=
  ext_col _ _ fun r => e116_at (lg m c) (le m c) _ _ (fun r g => lg4_glog r _ _ _ _ _ _ g) (fun r x => lg32_elog r _ _ _ _ _ _ x) r
theorem ref_e130 : e130
      (lg4 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg4)) (m ((c.tc : Thread Cert.RouteIdeal.nD Cert.RouteIdeal.τ).loc Cert.RouteIdeal.main_arg5)))
      (lg32 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg6)) (m ((c.tc : Thread Cert.RouteIdeal.nD Cert.RouteIdeal.τ).loc Cert.RouteIdeal.main_arg7))) = R6 m c :=
  ext_col _ _ fun r => e130_at (lg m c) (le m c) _ _ (fun r g => lg4_glog r _ _ _ _ _ _ g) (fun r x => lg32_elog r _ _ _ _ _ _ x) r
theorem ref_e96 : e96
      (lg4 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg4)) (m ((c.tc : Thread Cert.RouteIdeal.nD Cert.RouteIdeal.τ).loc Cert.RouteIdeal.main_arg5)))
      (lg32 (Cert.OutRefIdeal.Value.norm (Cert.OutRefIdeal.Value.sum (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) (m ((c.tc : Thread Cert.RouteIdeal.nD Cert.RouteIdeal.τ).loc Cert.RouteIdeal.main_arg3))) (m ((c.tc : Thread Cert.RouteIdeal.nD Cert.RouteIdeal.τ).loc Cert.RouteIdeal.main_arg6)) (m ((c.tc : Thread Cert.RouteIdeal.nD Cert.RouteIdeal.τ).loc Cert.RouteIdeal.main_arg7))) = R7 m c :=
  ext_row _ _ fun l => e96_at (lg m c) (le m c) _ _ (fun r g => lg4_glog r _ _ _ _ _ _ g) (fun r x => lg32_elog r _ _ _ _ _ _ x) l
end

theorem algebraic : Cert.algebraic_RouteIdeal_RouteRefIdeal_pre_all_finite := fun m g m' g' hpre hagree =>
  ⟨fun c => R4 m c 0, fun c => R4 m c 1, fun c => R4 m c 2, fun c => R4 m c 3, fun c => R5 m c, fun c => R6 m c, fun c => R7 m c,
    θ_run_mono (θ_run_and (Cert.RouteIdeal.Gen.run_main m g) (Cert.RouteIdeal.Gen.unchanged m g))
      fun _ h c => ⟨
        (((h.1 c).2 Cert.RouteIdeal.main_v21 (Pipeline.mem_restRefs_of Cert.RouteIdeal.main_v21 (by decide) (by decide))).trans (ext_col _ _ fun r => tail_21 m c (reals m hpre c) r)),
        (((h.1 c).2 Cert.RouteIdeal.main_v22 (Pipeline.mem_restRefs_of Cert.RouteIdeal.main_v22 (by decide) (by decide))).trans (ext_col _ _ fun r => tail_22 m c (reals m hpre c) r)),
        (((h.1 c).2 Cert.RouteIdeal.main_v23 (Pipeline.mem_restRefs_of Cert.RouteIdeal.main_v23 (by decide) (by decide))).trans (ext_col _ _ fun r => tail_23 m c (reals m hpre c) r)),
        (((h.1 c).2 Cert.RouteIdeal.main_v24 (Pipeline.mem_restRefs_of Cert.RouteIdeal.main_v24 (by decide) (by decide))).trans (ext_col _ _ fun r => tail_24 m c (reals m hpre c) r)),
        (((h.1 c).2 Cert.RouteIdeal.main_v25 (Pipeline.mem_restRefs_of Cert.RouteIdeal.main_v25 (by decide) (by decide))).trans (ext_col _ _ fun r => tail_25 m c (reals m hpre c) r)),
        (((h.1 c).2 Cert.RouteIdeal.main_v26 (Pipeline.mem_restRefs_of Cert.RouteIdeal.main_v26 (by decide) (by decide))).trans (ext_col _ _ fun r => tail_26 m c (reals m hpre c) r)),
        (((h.1 c).2 Cert.RouteIdeal.main_v27 (Pipeline.mem_restRefs_of Cert.RouteIdeal.main_v27 (by decide) (by decide))).trans (ext_row _ _ fun l => tail_27 m c (reals m hpre c) l)),
        h.2 c⟩,
    θ_run_mono (Cert.RouteRefIdeal.Value.run (F := Ideal) m' g')
      fun _ h c => by
        obtain ⟨a0, a1, a2, a3, a4, a5, a6, a7⟩ := hagree c
        have e0 := ref_e54 m c
        have e1 := ref_e66 m c
        have e2 := ref_e80 m c
        have e3 := ref_e83 m c
        have e4 := ref_e116 m c
        have e5 := ref_e130 m c
        have e6 := ref_e96 m c
        rw [← a0, ← a1, ← a2, ← a3, ← a4, ← a5, ← a6, ← a7] at e0 e1 e2 e3 e4 e5 e6
        exact ⟨(h c).1.trans e0, (h c).2.1.trans e1, (h c).2.2.1.trans e2, (h c).2.2.2.1.trans e3, (h c).2.2.2.2.1.trans e4, (h c).2.2.2.2.2.1.trans e5, (h c).2.2.2.2.2.2.1.trans e6, (h c).2.2.2.2.2.2.2⟩⟩

end Cert.RouteProof

end
-- ==== Proof.lean ====
module

public import proofs.«01_k».proof.Defs
public import proofs.«01_k».proof.Proof.FfnClaims
public import proofs.«01_k».proof.Proof.QkvClaims
public import proofs.«01_k».proof.Proof.OutClaims
public import proofs.«01_k».proof.Proof.RouteClaims

@[expose] public section

noncomputable section

namespace Cert.Proof

theorem claim : Cert.Claim := ⟨Cert.Ffn.Gen.facts, Cert.FfnIdeal.Gen.facts, Cert.FfnRefIdeal.Gen.facts,
  Cert.Qkv.Gen.facts, Cert.QkvIdeal.Gen.facts, Cert.QkvRefIdeal.Gen.facts,
  Cert.Out.Gen.facts, Cert.OutIdeal.Gen.facts, Cert.OutRefIdeal.Gen.facts,
  Cert.Route.Gen.facts, Cert.RouteIdeal.Gen.facts, Cert.RouteRefIdeal.Gen.facts,
  Cert.Pre_tile_expert_in_range.Gen.facts, Cert.RouteProof.pre_facts,
  Cert.FfnProof.frame_bits, Cert.FfnProof.frame_ideal, Cert.FfnProof.frame_ref, Cert.FfnProof.frame_ref_pre,
  Cert.QkvProof.frame_bits, Cert.QkvProof.frame_ideal, Cert.QkvProof.frame_ref,
  Cert.OutProof.frame_bits, Cert.OutProof.frame_ideal, Cert.OutProof.frame_ref,
  Cert.RouteProof.frame_bits, Cert.RouteProof.frame_ideal, Cert.RouteProof.frame_ideal_pre, Cert.RouteProof.frame_ref, Cert.RouteProof.frame_ref_pre,
  trivial, Cert.FfnProof.algebraic, trivial, Cert.QkvProof.algebraic,
  trivial, Cert.OutProof.algebraic, trivial, Cert.RouteProof.algebraic⟩

end Cert.Proof

end
